-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoder [hPre_finite_encoder : Cert.Pre_finite_encoder.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoder [hPre_finite_encoder : Cert.Pre_finite_encoder.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_encoder [hKernelIdeal : Cert.KernelIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoder m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_encoder [hReferenceIdeal : Cert.ReferenceIdeal.Facts] [hPre_finite_encoder : Cert.Pre_finite_encoder.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoder m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_encoder [hKernelIdeal : Cert.KernelIdeal.Facts] [hReferenceIdeal : Cert.ReferenceIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoder m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_encoder : Cert.Pre_finite_encoder.Facts),
    quiescent_Kernel (hKernel := hKernel)
    ∧ quiescent_KernelIdeal (hKernelIdeal := hKernelIdeal)
    ∧ quiescent_KernelIdeal_pre_finite_encoder (hKernelIdeal := hKernelIdeal) (hPre_finite_encoder := hPre_finite_encoder)
    ∧ quiescent_ReferenceIdeal (hReferenceIdeal := hReferenceIdeal)
    ∧ quiescent_ReferenceIdeal_pre_finite_encoder (hReferenceIdeal := hReferenceIdeal) (hPre_finite_encoder := hPre_finite_encoder)
    ∧ preserves_Kernel_KernelIdeal
    ∧ algebraic_KernelIdeal_ReferenceIdeal_pre_finite_encoder (hKernelIdeal := hKernelIdeal) (hReferenceIdeal := hReferenceIdeal) (hPre_finite_encoder := hPre_finite_encoder)
-- ==== Pre_finite_encoder.lean ====
abbrev S8x224x224x3 : Shape := ⟨4, ![8, 224, 224, 3]⟩
abbrev S4x4x3x32 : Shape := ⟨4, ![4, 4, 3, 32]⟩
abbrev S32 : Shape := ⟨1, ![32]⟩
abbrev S4x4x32x64 : Shape := ⟨4, ![4, 4, 32, 64]⟩
abbrev S64 : Shape := ⟨1, ![64]⟩
abbrev S3x3x64x64 : Shape := ⟨4, ![3, 3, 64, 64]⟩
abbrev S1024x64 : Shape := ⟨2, ![1024, 64]⟩
abbrev S4x4x64x32 : Shape := ⟨4, ![4, 4, 64, 32]⟩
abbrev S4x4x32x3 : Shape := ⟨4, ![4, 4, 32, 3]⟩
abbrev S3 : Shape := ⟨1, ![3]⟩
abbrev S_ : Shape := ⟨0, ![]⟩

class Facts : Prop where
  bcast_S_S8x224x224x3 : S_.BroadcastsInDim S8x224x224x3 (![] : Fin 0 → Fin S8x224x224x3.rank)
  reducesTo_S8x224x224x3_S_d0_1_2_3 : S8x224x224x3.ReducesTo [0, 1, 2, 3] S_
  h_S_ : 0 < S_.numel
  bcast_S_S4x4x3x32 : S_.BroadcastsInDim S4x4x3x32 (![] : Fin 0 → Fin S4x4x3x32.rank)
  reducesTo_S4x4x3x32_S_d0_1_2_3 : S4x4x3x32.ReducesTo [0, 1, 2, 3] S_
  bcast_S_S32 : S_.BroadcastsInDim S32 (![] : Fin 0 → Fin S32.rank)
  reducesTo_S32_S_d0 : S32.ReducesTo [0] S_
  bcast_S_S4x4x32x64 : S_.BroadcastsInDim S4x4x32x64 (![] : Fin 0 → Fin S4x4x32x64.rank)
  reducesTo_S4x4x32x64_S_d0_1_2_3 : S4x4x32x64.ReducesTo [0, 1, 2, 3] S_
  bcast_S_S64 : S_.BroadcastsInDim S64 (![] : Fin 0 → Fin S64.rank)
  reducesTo_S64_S_d0 : S64.ReducesTo [0] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_

variable [Facts]

def fn_part1 {F : FTy → Type} [FloatOps F] (main_arg4 : FVec F S64 .f32) (main_arg5 : FVec F S3x3x64x64 .f32) (main_arg6 : FVec F S64 .f32) (main_v13 : IVec S_ 1) (main_v16 : IVec S4x4x32x64 1) : IVec S_ 1 :=
  let main_c_5 : IVec S_ 1 := constantI S_ 1 1#1
  let main_v17 : IVec S_ 1 := (fun x v => Host.reduce IntOp.andi x v reducesTo_S4x4x32x64_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x3x64x64 .f32 := Host.absf main_arg5
  let main_cst_8 : FVec F S_ .f32 := constant S_ .f32 0x7F800000#32
  let main_v25 : FVec F S3x3x64x64 .f32 := broadcastInDim S3x3x64x64 ![] bcast_S_S3x3x64x64 main_cst_8
  let main_v26 : IVec S3x3x64x64 1 := cmpf .olt main_v24 main_v25
  let main_c_9 : IVec S_ 1 := constantI S_ 1 1#1
  let main_v27 : IVec S_ 1 := (fun x v => Host.reduce IntOp.andi x v reducesTo_S3x3x64x64_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x224x224x3 .f32) (main_arg1 : FVec F S4x4x3x32 .f32) (main_arg2 : FVec F S32 .f32) (main_arg3 : FVec F S4x4x32x64 .f32) (main_arg4 : FVec F S64 .f32) (main_arg5 : FVec F S3x3x64x64 .f32) (main_arg6 : FVec F S64 .f32) (main_arg7 : FVec F S1024x64 .f32) (main_arg8 : FVec F S3x3x64x64 .f32) (main_arg9 : FVec F S64 .f32) (main_arg10 : FVec F S4x4x64x32 .f32) (main_arg11 : FVec F S32 .f32) (main_arg12 : FVec F S4x4x32x3 .f32) (main_arg13 : FVec F S3 .f32) : IVec S_ 1 :=
  let main_v0 : FVec F S8x224x224x3 .f32 := Host.absf main_arg0
  let main_cst : FVec F S_ .f32 := constant S_ .f32 0x7F800000#32
  let main_v1 : FVec F S8x224x224x3 .f32 := broadcastInDim S8x224x224x3 ![] bcast_S_S8x224x224x3 main_cst
  let main_v2 : IVec S8x224x224x3 1 := cmpf .olt main_v0 main_v1
  let main_c : IVec S_ 1 := constantI S_ 1 1#1
  let main_v3 : IVec S_ 1 := (fun x v => Host.reduce IntOp.andi x v reducesTo_S8x224x224x3_S_d0_1_2_3 h_S_) main_v2 main_c
  let main_v4 : FVec F S4x4x3x32 .f32 := Host.absf main_arg1
  let main_cst_0 : FVec F S_ .f32 := constant S_ .f32 0x7F800000#32
  let main_v5 : FVec F S4x4x3x32 .f32 := broadcastInDim S4x4x3x32 ![] bcast_S_S4x4x3x32 main_cst_0
  let main_v6 : IVec S4x4x3x32 1 := cmpf .olt main_v4 main_v5
  let main_c_1 : IVec S_ 1 := constantI S_ 1 1#1
  let main_v7 : IVec S_ 1 := (fun x v => Host.reduce IntOp.andi x v reducesTo_S4x4x3x32_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S4x4x32x64 .f32 := Host.absf main_arg3
  let main_cst_4 : FVec F S_ .f32 := constant S_ .f32 0x7F800000#32
  let main_v15 : FVec F S4x4x32x64 .f32 := broadcastInDim S4x4x32x64 ![] bcast_S_S4x4x32x64 main_cst_4
  let main_v16 : IVec S4x4x32x64 1 := cmpf .olt main_v14 main_v15
  fn_part1 (F := F) main_arg4 main_arg5 main_arg6 main_v13 main_v16
-- ==== Kernel.lean ====
abbrev S8x224x224x3 : Shape := ⟨4, ![8, 224, 224, 3]⟩
abbrev S4x4x3x32 : Shape := ⟨4, ![4, 4, 3, 32]⟩
abbrev S32 : Shape := ⟨1, ![32]⟩
abbrev S4x4x32x64 : Shape := ⟨4, ![4, 4, 32, 64]⟩
abbrev S64 : Shape := ⟨1, ![64]⟩
abbrev S3x3x64x64 : Shape := ⟨4, ![3, 3, 64, 64]⟩
abbrev S1024x64 : Shape := ⟨2, ![1024, 64]⟩
abbrev S4x4x64x32 : Shape := ⟨4, ![4, 4, 64, 32]⟩
abbrev S4x4x32x3 : Shape := ⟨4, ![4, 4, 32, 3]⟩
abbrev S3 : Shape := ⟨1, ![3]⟩
abbrev S2x2x4x4 : Shape := ⟨4, ![2, 2, 4, 4]⟩
abbrev S3x2x4 : Shape := ⟨3, ![3, 2, 4]⟩
abbrev S_ : Shape := ⟨0, ![]⟩
abbrev S8x288x288x3 : Shape := ⟨4, ![8, 288, 288, 3]⟩
abbrev S8x72x4x72x4x3 : Shape := ⟨6, ![8, 72, 4, 72, 4, 3]⟩
abbrev S8x72x72x4x4x3 : Shape := ⟨6, ![8, 72, 72, 4, 4, 3]⟩
abbrev S8x72x72x48 : Shape := ⟨4, ![8, 72, 72, 48]⟩
abbrev S2x2x4x4x1x1x1 : Shape := ⟨7, ![2, 2, 4, 4, 1, 1, 1]⟩
abbrev S4x1x4x3x32 : Shape := ⟨5, ![4, 1, 4, 3, 32]⟩
abbrev S1x1x4x1x4x3x32 : Shape := ⟨7, ![1, 1, 4, 1, 4, 3, 32]⟩
abbrev S2x2x4x4x4x3x32 : Shape := ⟨7, ![2, 2, 4, 4, 4, 3, 32]⟩
abbrev S2x2x4x4x3x32 : Shape := ⟨6, ![2, 2, 4, 4, 3, 32]⟩
abbrev S2x2x4x3x32x4 : Shape := ⟨6, ![2, 2, 4, 3, 32, 4]⟩
abbrev S2x1x2x1x4x1x3x32x4 : Shape := ⟨9, ![2, 1, 2, 1, 4, 1, 3, 32, 4]⟩
abbrev S2x1x2x1x4x1x1x4 : Shape := ⟨8, ![2, 1, 2, 1, 4, 1, 1, 4]⟩
abbrev S1x2x1x2x1x4x1x1x4 : Shape := ⟨9, ![1, 2, 1, 2, 1, 4, 1, 1, 4]⟩
abbrev S2x2x2x2x4x4x3x32x4 : Shape := ⟨9, ![2, 2, 2, 2, 4, 4, 3, 32, 4]⟩
abbrev S2x2x2x2x4x4x3x32 : Shape := ⟨8, ![2, 2, 2, 2, 4, 4, 3, 32]⟩
abbrev S2x2x2x2x48x32 : Shape := ⟨6, ![2, 2, 2, 2, 48, 32]⟩
abbrev S3x2x4x1x1x1 : Shape := ⟨6, ![3, 2, 4, 1, 1, 1]⟩
abbrev S1x1x4x4x32x3 : Shape := ⟨6, ![1, 1, 4, 4, 32, 3]⟩
abbrev S3x2x4x4x32x3 : Shape := ⟨6, ![3, 2, 4, 4, 32, 3]⟩
abbrev S3x2x4x32x3 : Shape := ⟨5, ![3, 2, 4, 32, 3]⟩
abbrev S3x32x2x3x4 : Shape := ⟨5, ![3, 32, 2, 3, 4]⟩
abbrev S3x1x32x2x1x3x4 : Shape := ⟨7, ![3, 1, 32, 2, 1, 3, 4]⟩
abbrev S3x1x1x2x1x4 : Shape := ⟨6, ![3, 1, 1, 2, 1, 4]⟩
abbrev S1x3x1x1x2x1x4 : Shape := ⟨7, ![1, 3, 1, 1, 2, 1, 4]⟩
abbrev S3x3x32x2x2x3x4 : Shape := ⟨7, ![3, 3, 32, 2, 2, 3, 4]⟩
abbrev S3x3x32x2x2x3 : Shape := ⟨6, ![3, 3, 32, 2, 2, 3]⟩
abbrev S3x3x32x12 : Shape := ⟨4, ![3, 3, 32, 12]⟩
abbrev S1x3 : Shape := ⟨2, ![1, 3]⟩
abbrev S4x3 : Shape := ⟨2, ![4, 3]⟩
abbrev S12 : Shape := ⟨1, ![12]⟩
abbrev S64x1024 : Shape := ⟨2, ![64, 1024]⟩
abbrev S8x3136x64 : Shape := ⟨3, ![8, 3136, 64]⟩
abbrev S8x4x3136x32 : Shape := ⟨4, ![8, 4, 3136, 32]⟩
abbrev S1x72x72x48 : Shape := ⟨4, ![1, 72, 72, 48]⟩
abbrev S1x3136x64 : Shape := ⟨3, ![1, 3136, 64]⟩
abbrev S1x4x3136x32 : Shape := ⟨4, ![1, 4, 3136, 32]⟩
abbrev S72x72x48 : Shape := ⟨3, ![72, 72, 48]⟩
abbrev S4096x32 : Shape := ⟨2, ![4096, 32]⟩
abbrev S64x64x48 : Shape := ⟨3, ![64, 64, 48]⟩
abbrev S4096x48 : Shape := ⟨2, ![4096, 48]⟩
abbrev S1x1x1x1x48x32 : Shape := ⟨6, ![1, 1, 1, 1, 48, 32]⟩
abbrev S48x32 : Shape := ⟨2, ![48, 32]⟩
abbrev S1x32 : Shape := ⟨2, ![1, 32]⟩
abbrev S64x64x32 : Shape := ⟨3, ![64, 64, 32]⟩
abbrev S3136x64 : Shape := ⟨2, ![3136, 64]⟩
abbrev S56x56x32 : Shape := ⟨3, ![56, 56, 32]⟩
abbrev S3136x32 : Shape := ⟨2, ![3136, 32]⟩
abbrev S1x1x32x64 : Shape := ⟨4, ![1, 1, 32, 64]⟩
abbrev S32x64 : Shape := ⟨2, ![32, 64]⟩
abbrev S1x64 : Shape := ⟨2, ![1, 64]⟩
abbrev S56x56x64 : Shape := ⟨3, ![56, 56, 64]⟩
abbrev S1x56x64 : Shape := ⟨3, ![1, 56, 64]⟩
abbrev S58x56x64 : Shape := ⟨3, ![58, 56, 64]⟩
abbrev S58x1x64 : Shape := ⟨3, ![58, 1, 64]⟩
abbrev S58x58x64 : Shape := ⟨3, ![58, 58, 64]⟩
abbrev S1x1x64x64 : Shape := ⟨4, ![1, 1, 64, 64]⟩
abbrev S64x64 : Shape := ⟨2, ![64, 64]⟩
abbrev S1024 : Shape := ⟨1, ![1024]⟩
abbrev S1x1024 : Shape := ⟨2, ![1, 1024]⟩
abbrev S784x64 : Shape := ⟨2, ![784, 64]⟩
abbrev S784 : Shape := ⟨1, ![784]⟩
abbrev S784x1 : Shape := ⟨2, ![784, 1]⟩
abbrev S784x1024 : Shape := ⟨2, ![784, 1024]⟩
abbrev S1x1x64x32 : Shape := ⟨4, ![1, 1, 64, 32]⟩
abbrev S64x32 : Shape := ⟨2, ![64, 32]⟩
abbrev S1x1x3136x32 : Shape := ⟨4, ![1, 1, 3136, 32]⟩
abbrev S8x2x2x56x56x32 : Shape := ⟨6, ![8, 2, 2, 56, 56, 32]⟩
abbrev S8x56x2x56x2x32 : Shape := ⟨6, ![8, 56, 2, 56, 2, 32]⟩
abbrev S8x112x112x32 : Shape := ⟨4, ![8, 112, 112, 32]⟩
abbrev S8x114x114x32 : Shape := ⟨4, ![8, 114, 114, 32]⟩
abbrev S8x12544x12 : Shape := ⟨3, ![8, 12544, 12]⟩
abbrev S1x114x114x32 : Shape := ⟨4, ![1, 114, 114, 32]⟩
abbrev S1x12544x12 : Shape := ⟨3, ![1, 12544, 12]⟩
abbrev S1792x12 : Shape := ⟨2, ![1792, 12]⟩
abbrev S1x16x112x32 : Shape := ⟨4, ![1, 16, 112, 32]⟩
abbrev S16x112x32 : Shape := ⟨3, ![16, 112, 32]⟩
abbrev S1792x32 : Shape := ⟨2, ![1792, 32]⟩
abbrev S1x1x32x12 : Shape := ⟨4, ![1, 1, 32, 12]⟩
abbrev S32x12 : Shape := ⟨2, ![32, 12]⟩
abbrev S1x12 : Shape := ⟨2, ![1, 12]⟩
abbrev S1x1792x12 : Shape := ⟨3, ![1, 1792, 12]⟩
abbrev S8x112x112x2x2x3 : Shape := ⟨6, ![8, 112, 112, 2, 2, 3]⟩
abbrev S8x112x2x112x2x3 : Shape := ⟨6, ![8, 112, 2, 112, 2, 3]⟩
abbrev S8x56x56x64 : Shape := ⟨4, ![8, 56, 56, 64]⟩

abbrev nBuf : Space → Nat
  | .hbm => 75
  | .vmem => 24
  | .smem => 0
  | _ => 0

abbrev bufTy : (tb : Table) → Fin (tcTables nBuf tb) → BufTy
  | .hbm, ⟨0, _⟩ => ⟨S8x224x224x3, .f32⟩
  | .hbm, ⟨1, _⟩ => ⟨S4x4x3x32, .f32⟩
  | .hbm, ⟨2, _⟩ => ⟨S32, .f32⟩
  | .hbm, ⟨3, _⟩ => ⟨S4x4x32x64, .f32⟩
  | .hbm, ⟨4, _⟩ => ⟨S64, .f32⟩
  | .hbm, ⟨5, _⟩ => ⟨S3x3x64x64, .f32⟩
  | .hbm, ⟨6, _⟩ => ⟨S64, .f32⟩
  | .hbm, ⟨7, _⟩ => ⟨S1024x64, .f32⟩
  | .hbm, ⟨8, _⟩ => ⟨S3x3x64x64, .f32⟩
  | .hbm, ⟨9, _⟩ => ⟨S64, .f32⟩
  | .hbm, ⟨10, _⟩ => ⟨S4x4x64x32, .f32⟩
  | .hbm, ⟨11, _⟩ => ⟨S32, .f32⟩
  | .hbm, ⟨12, _⟩ => ⟨S4x4x32x3, .f32⟩
  | .hbm, ⟨13, _⟩ => ⟨S3, .f32⟩
  | .hbm, ⟨14, _⟩ => ⟨S2x2x4x4, .f32⟩
  | .hbm, ⟨15, _⟩ => ⟨S3x2x4, .f32⟩
  | .hbm, ⟨16, _⟩ => ⟨S_, .i32⟩
  | .hbm, ⟨17, _⟩ => ⟨S_, .f32⟩
  | .hbm, ⟨18, _⟩ => ⟨S8x288x288x3, .f32⟩
  | .hbm, ⟨19, _⟩ => ⟨S8x72x4x72x4x3, .f32⟩
  | .hbm, ⟨20, _⟩ => ⟨S8x72x72x4x4x3, .f32⟩
  | .hbm, ⟨21, _⟩ => ⟨S8x72x72x48, .f32⟩
  | .hbm, ⟨22, _⟩ => ⟨S2x2x4x4x1x1x1, .f32⟩
  | .hbm, ⟨23, _⟩ => ⟨S4x1x4x3x32, .f32⟩
  | .hbm, ⟨24, _⟩ => ⟨S1x1x4x1x4x3x32, .f32⟩
  | .hbm, ⟨25, _⟩ => ⟨S2x2x4x4x4x3x32, .f32⟩
  | .hbm, ⟨26, _⟩ => ⟨S2x2x4x4x4x3x32, .f32⟩
  | .hbm, ⟨27, _⟩ => ⟨S2x2x4x4x4x3x32, .f32⟩
  | .hbm, ⟨28, _⟩ => ⟨S_, .f32⟩
  | .hbm, ⟨29, _⟩ => ⟨S2x2x4x4x3x32, .f32⟩
  | .hbm, ⟨30, _⟩ => ⟨S2x2x4x3x32x4, .f32⟩
  | .hbm, ⟨31, _⟩ => ⟨S2x1x2x1x4x1x3x32x4, .f32⟩
  | .hbm, ⟨32, _⟩ => ⟨S2x2x4x4, .f32⟩
  | .hbm, ⟨33, _⟩ => ⟨S2x1x2x1x4x1x1x4, .f32⟩
  | .hbm, ⟨34, _⟩ => ⟨S1x2x1x2x1x4x1x1x4, .f32⟩
  | .hbm, ⟨35, _⟩ => ⟨S2x2x2x2x4x4x3x32x4, .f32⟩
  | .hbm, ⟨36, _⟩ => ⟨S2x2x2x2x4x4x3x32x4, .f32⟩
  | .hbm, ⟨37, _⟩ => ⟨S2x2x2x2x4x4x3x32x4, .f32⟩
  | .hbm, ⟨38, _⟩ => ⟨S_, .f32⟩
  | .hbm, ⟨39, _⟩ => ⟨S2x2x2x2x4x4x3x32, .f32⟩
  | .hbm, ⟨40, _⟩ => ⟨S2x2x2x2x48x32, .f32⟩
  | .hbm, ⟨41, _⟩ => ⟨S3x2x4x1x1x1, .f32⟩
  | .hbm, ⟨42, _⟩ => ⟨S1x1x4x4x32x3, .f32⟩
  | .hbm, ⟨43, _⟩ => ⟨S3x2x4x4x32x3, .f32⟩
  | .hbm, ⟨44, _⟩ => ⟨S3x2x4x4x32x3, .f32⟩
  | .hbm, ⟨45, _⟩ => ⟨S3x2x4x4x32x3, .f32⟩
  | .hbm, ⟨46, _⟩ => ⟨S_, .f32⟩
  | .hbm, ⟨47, _⟩ => ⟨S3x2x4x32x3, .f32⟩
  | .hbm, ⟨48, _⟩ => ⟨S3x32x2x3x4, .f32⟩
  | .hbm, ⟨49, _⟩ => ⟨S3x1x32x2x1x3x4, .f32⟩
  | .hbm, ⟨50, _⟩ => ⟨S3x1x1x2x1x4, .f32⟩
  | .hbm, ⟨51, _⟩ => ⟨S1x3x1x1x2x1x4, .f32⟩
  | .hbm, ⟨52, _⟩ => ⟨S3x3x32x2x2x3x4, .f32⟩
  | .hbm, ⟨53, _⟩ => ⟨S3x3x32x2x2x3x4, .f32⟩
  | .hbm, ⟨54, _⟩ => ⟨S3x3x32x2x2x3x4, .f32⟩
  | .hbm, ⟨55, _⟩ => ⟨S_, .f32⟩
  | .hbm, ⟨56, _⟩ => ⟨S3x3x32x2x2x3, .f32⟩
  | .hbm, ⟨57, _⟩ => ⟨S3x3x32x12, .f32⟩
  | .hbm, ⟨58, _⟩ => ⟨S1x3, .f32⟩
  | .hbm, ⟨59, _⟩ => ⟨S4x3, .f32⟩
  | .hbm, ⟨60, _⟩ => ⟨S12, .f32⟩
  | .hbm, ⟨61, _⟩ => ⟨S64x1024, .f32⟩
  | .hbm, ⟨62, _⟩ => ⟨S8x3136x64, .f32⟩
  | .hbm, ⟨63, _⟩ => ⟨S8x4x3136x32, .f32⟩
  | .hbm, ⟨64, _⟩ => ⟨S8x2x2x56x56x32, .f32⟩
  | .hbm, ⟨65, _⟩ => ⟨S8x56x2x56x2x32, .f32⟩
  | .hbm, ⟨66, _⟩ => ⟨S8x112x112x32, .f32⟩
  | .hbm, ⟨67, _⟩ => ⟨S_, .i32⟩
  | .hbm, ⟨68, _⟩ => ⟨S_, .f32⟩
  | .hbm, ⟨69, _⟩ => ⟨S8x114x114x32, .f32⟩
  | .hbm, ⟨70, _⟩ => ⟨S8x12544x12, .f32⟩
  | .hbm, ⟨71, _⟩ => ⟨S8x112x112x2x2x3, .f32⟩
  | .hbm, ⟨72, _⟩ => ⟨S8x112x2x112x2x3, .f32⟩
  | .hbm, ⟨73, _⟩ => ⟨S8x224x224x3, .f32⟩
  | .hbm, ⟨74, _⟩ => ⟨S8x56x56x64, .f32⟩
  | .local _ .vmem, ⟨0, _⟩ => ⟨S1x72x72x48, .f32⟩
  | .local _ .vmem, ⟨1, _⟩ => ⟨S1x72x72x48, .f32⟩
  | .local _ .vmem, ⟨2, _⟩ => ⟨S2x2x2x2x48x32, .f32⟩
  | .local _ .vmem, ⟨3, _⟩ => ⟨S32, .f32⟩
  | .local _ .vmem, ⟨4, _⟩ => ⟨S4x4x32x64, .f32⟩
  | .local _ .vmem, ⟨5, _⟩ => ⟨S64, .f32⟩
  | .local _ .vmem, ⟨6, _⟩ => ⟨S3x3x64x64, .f32⟩
  | .local _ .vmem, ⟨7, _⟩ => ⟨S64, .f32⟩
  | .local _ .vmem, ⟨8, _⟩ => ⟨S64x1024, .f32⟩
  | .local _ .vmem, ⟨9, _⟩ => ⟨S1024x64, .f32⟩
  | .local _ .vmem, ⟨10, _⟩ => ⟨S3x3x64x64, .f32⟩
  | .local _ .vmem, ⟨11, _⟩ => ⟨S64, .f32⟩
  | .local _ .vmem, ⟨12, _⟩ => ⟨S4x4x64x32, .f32⟩
  | .local _ .vmem, ⟨13, _⟩ => ⟨S32, .f32⟩
  | .local _ .vmem, ⟨14, _⟩ => ⟨S1x3136x64, .f32⟩
  | .local _ .vmem, ⟨15, _⟩ => ⟨S1x3136x64, .f32⟩
  | .local _ .vmem, ⟨16, _⟩ => ⟨S1x4x3136x32, .f32⟩
  | .local _ .vmem, ⟨17, _⟩ => ⟨S1x4x3136x32, .f32⟩
  | .local _ .vmem, ⟨18, _⟩ => ⟨S1x114x114x32, .f32⟩
  | .local _ .vmem, ⟨19, _⟩ => ⟨S1x114x114x32, .f32⟩
  | .local _ .vmem, ⟨20, _⟩ => ⟨S3x3x32x12, .f32⟩
  | .local _ .vmem, ⟨21, _⟩ => ⟨S12, .f32⟩
  | .local _ .vmem, ⟨22, _⟩ => ⟨S1x12544x12, .f32⟩
  | .local _ .vmem, ⟨23, _⟩ => ⟨S1x12544x12, .f32⟩
  | _, _ => ⟨S8x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_5 : Ref sig .tc := ⟨.hbm, 67, rfl⟩
abbrev main_call1_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x72x72x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x2x2x48x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x4x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x3x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x4x64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x3136x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x3136x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x114x114x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x3x32x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x12544x12 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x224x224x3 : Shape := ⟨4, ![8, 224, 224, 3]⟩
abbrev S4x4x3x32 : Shape := ⟨4, ![4, 4, 3, 32]⟩
abbrev S32 : Shape := ⟨1, ![32]⟩
abbrev S4x4x32x64 : Shape := ⟨4, ![4, 4, 32, 64]⟩
abbrev S64 : Shape := ⟨1, ![64]⟩
abbrev S3x3x64x64 : Shape := ⟨4, ![3, 3, 64, 64]⟩
abbrev S1024x64 : Shape := ⟨2, ![1024, 64]⟩
abbrev S4x4x64x32 : Shape := ⟨4, ![4, 4, 64, 32]⟩
abbrev S4x4x32x3 : Shape := ⟨4, ![4, 4, 32, 3]⟩
abbrev S3 : Shape := ⟨1, ![3]⟩
abbrev S_ : Shape := ⟨0, ![]⟩
abbrev S8x226x226x3 : Shape := ⟨4, ![8, 226, 226, 3]⟩
abbrev S8x112x226x3 : Shape := ⟨4, ![8, 112, 226, 3]⟩
abbrev S8x112x1x226x3 : Shape := ⟨5, ![8, 112, 1, 226, 3]⟩
abbrev S8x112x4x226x3 : Shape := ⟨5, ![8, 112, 4, 226, 3]⟩
abbrev S8x112x4x112x3 : Shape := ⟨5, ![8, 112, 4, 112, 3]⟩
abbrev S8x112x4x112x1x3 : Shape := ⟨6, ![8, 112, 4, 112, 1, 3]⟩
abbrev S8x112x4x112x4x3 : Shape := ⟨6, ![8, 112, 4, 112, 4, 3]⟩
abbrev S8x112x112x32 : Shape := ⟨4, ![8, 112, 112, 32]⟩
abbrev S1x1x1x32 : Shape := ⟨4, ![1, 1, 1, 32]⟩
abbrev S8x114x114x32 : Shape := ⟨4, ![8, 114, 114, 32]⟩
abbrev S8x56x114x32 : Shape := ⟨4, ![8, 56, 114, 32]⟩
abbrev S8x56x1x114x32 : Shape := ⟨5, ![8, 56, 1, 114, 32]⟩
abbrev S8x56x4x114x32 : Shape := ⟨5, ![8, 56, 4, 114, 32]⟩
abbrev S8x56x4x56x32 : Shape := ⟨5, ![8, 56, 4, 56, 32]⟩
abbrev S8x56x4x56x1x32 : Shape := ⟨6, ![8, 56, 4, 56, 1, 32]⟩
abbrev S8x56x4x56x4x32 : Shape := ⟨6, ![8, 56, 4, 56, 4, 32]⟩
abbrev S8x56x56x64 : Shape := ⟨4, ![8, 56, 56, 64]⟩
abbrev S1x1x1x64 : Shape := ⟨4, ![1, 1, 1, 64]⟩
abbrev S8x58x58x64 : Shape := ⟨4, ![8, 58, 58, 64]⟩
abbrev S8x56x58x64 : Shape := ⟨4, ![8, 56, 58, 64]⟩
abbrev S8x56x1x58x64 : Shape := ⟨5, ![8, 56, 1, 58, 64]⟩
abbrev S8x56x3x58x64 : Shape := ⟨5, ![8, 56, 3, 58, 64]⟩
abbrev S8x56x3x56x64 : Shape := ⟨5, ![8, 56, 3, 56, 64]⟩
abbrev S8x56x3x56x1x64 : Shape := ⟨6, ![8, 56, 3, 56, 1, 64]⟩
abbrev S8x56x3x56x3x64 : Shape := ⟨6, ![8, 56, 3, 56, 3, 64]⟩
abbrev S25088x64 : Shape := ⟨2, ![25088, 64]⟩
abbrev S25088 : Shape := ⟨1, ![25088]⟩
abbrev S25088x1 : Shape := ⟨2, ![25088, 1]⟩
abbrev S64x1024 : Shape := ⟨2, ![64, 1024]⟩
abbrev S25088x1024 : Shape := ⟨2, ![25088, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x111x111x64 : Shape := ⟨4, ![8, 111, 111, 64]⟩
abbrev S8x115x115x64 : Shape := ⟨4, ![8, 115, 115, 64]⟩
abbrev S8x112x115x64 : Shape := ⟨4, ![8, 112, 115, 64]⟩
abbrev S8x112x1x115x64 : Shape := ⟨5, ![8, 112, 1, 115, 64]⟩
abbrev S8x112x4x115x64 : Shape := ⟨5, ![8, 112, 4, 115, 64]⟩
abbrev S8x112x4x112x64 : Shape := ⟨5, ![8, 112, 4, 112, 64]⟩
abbrev S8x112x4x112x1x64 : Shape := ⟨6, ![8, 112, 4, 112, 1, 64]⟩
abbrev S8x112x4x112x4x64 : Shape := ⟨6, ![8, 112, 4, 112, 4, 64]⟩
abbrev S8x223x223x32 : Shape := ⟨4, ![8, 223, 223, 32]⟩
abbrev S8x227x227x32 : Shape := ⟨4, ![8, 227, 227, 32]⟩
abbrev S8x224x227x32 : Shape := ⟨4, ![8, 224, 227, 32]⟩
abbrev S8x224x1x227x32 : Shape := ⟨5, ![8, 224, 1, 227, 32]⟩
abbrev S8x224x4x227x32 : Shape := ⟨5, ![8, 224, 4, 227, 32]⟩
abbrev S8x224x4x224x32 : Shape := ⟨5, ![8, 224, 4, 224, 32]⟩
abbrev S8x224x4x224x1x32 : Shape := ⟨6, ![8, 224, 4, 224, 1, 32]⟩
abbrev S8x224x4x224x4x32 : Shape := ⟨6, ![8, 224, 4, 224, 4, 32]⟩
abbrev S1x1x1x3 : Shape := ⟨4, ![1, 1, 1, 3]⟩

abbrev nBuf : Space → Nat
  | .hbm => 223
  | .vmem => 0
  | .smem => 0
  | _ => 0

abbrev hbmTy0_0 (i : Nat) : BufTy := match i % 128 with
  | 0 => ⟨S8x224x224x3, .f32⟩
  | 1 => ⟨S4x4x3x32, .f32⟩
  | 2 => ⟨S32, .f32⟩
  | 3 => ⟨S4x4x32x64, .f32⟩
  | 4 => ⟨S64, .f32⟩
  | 5 => ⟨S3x3x64x64, .f32⟩
  | 6 => ⟨S64, .f32⟩
  | 7 => ⟨S1024x64, .f32⟩
  | 8 => ⟨S3x3x64x64, .f32⟩
  | 9 => ⟨S64, .f32⟩
  | 10 => ⟨S4x4x64x32, .f32⟩
  | 11 => ⟨S32, .f32⟩
  | 12 => ⟨S4x4x32x3, .f32⟩
  | 13 => ⟨S3, .f32⟩
  | 14 => ⟨S_, .i32⟩
  | 15 => ⟨S_, .f32⟩
  | 16 => ⟨S8x226x226x3, .f32⟩
  | 17 => ⟨S8x112x226x3, .f32⟩
  | 18 => ⟨S8x112x226x3, .f32⟩
  | 19 => ⟨S8x112x226x3, .f32⟩
  | 20 => ⟨S8x112x226x3, .f32⟩
  | 21 => ⟨S8x112x1x226x3, .f32⟩
  | 22 => ⟨S8x112x1x226x3, .f32⟩
  | 23 => ⟨S8x112x1x226x3, .f32⟩
  | 24 => ⟨S8x112x1x226x3, .f32⟩
  | 25 => ⟨S8x112x4x226x3, .f32⟩
  | 26 => ⟨S8x112x4x112x3, .f32⟩
  | 27 => ⟨S8x112x4x112x3, .f32⟩
  | 28 => ⟨S8x112x4x112x3, .f32⟩
  | 29 => ⟨S8x112x4x112x3, .f32⟩
  | 30 => ⟨S8x112x4x112x1x3, .f32⟩
  | 31 => ⟨S8x112x4x112x1x3, .f32⟩
  | 32 => ⟨S8x112x4x112x1x3, .f32⟩
  | 33 => ⟨S8x112x4x112x1x3, .f32⟩
  | 34 => ⟨S8x112x4x112x4x3, .f32⟩
  | 35 => ⟨S8x112x112x32, .f32⟩
  | 36 => ⟨S1x1x1x32, .f32⟩
  | 37 => ⟨S8x112x112x32, .f32⟩
  | 38 => ⟨S8x112x112x32, .f32⟩
  | 39 => ⟨S_, .f32⟩
  | 40 => ⟨S8x112x112x32, .f32⟩
  | 41 => ⟨S8x112x112x32, .f32⟩
  | 42 => ⟨S_, .i32⟩
  | 43 => ⟨S_, .f32⟩
  | 44 => ⟨S8x114x114x32, .f32⟩
  | 45 => ⟨S8x56x114x32, .f32⟩
  | 46 => ⟨S8x56x114x32, .f32⟩
  | 47 => ⟨S8x56x114x32, .f32⟩
  | 48 => ⟨S8x56x114x32, .f32⟩
  | 49 => ⟨S8x56x1x114x32, .f32⟩
  | 50 => ⟨S8x56x1x114x32, .f32⟩
  | 51 => ⟨S8x56x1x114x32, .f32⟩
  | 52 => ⟨S8x56x1x114x32, .f32⟩
  | 53 => ⟨S8x56x4x114x32, .f32⟩
  | 54 => ⟨S8x56x4x56x32, .f32⟩
  | 55 => ⟨S8x56x4x56x32, .f32⟩
  | 56 => ⟨S8x56x4x56x32, .f32⟩
  | 57 => ⟨S8x56x4x56x32, .f32⟩
  | 58 => ⟨S8x56x4x56x1x32, .f32⟩
  | 59 => ⟨S8x56x4x56x1x32, .f32⟩
  | 60 => ⟨S8x56x4x56x1x32, .f32⟩
  | 61 => ⟨S8x56x4x56x1x32, .f32⟩
  | 62 => ⟨S8x56x4x56x4x32, .f32⟩
  | 63 => ⟨S8x56x56x64, .f32⟩
  | 64 => ⟨S1x1x1x64, .f32⟩
  | 65 => ⟨S8x56x56x64, .f32⟩
  | 66 => ⟨S8x56x56x64, .f32⟩
  | 67 => ⟨S_, .f32⟩
  | 68 => ⟨S8x56x56x64, .f32⟩
  | 69 => ⟨S8x56x56x64, .f32⟩
  | 70 => ⟨S_, .i32⟩
  | 71 => ⟨S_, .f32⟩
  | 72 => ⟨S8x58x58x64, .f32⟩
  | 73 => ⟨S8x56x58x64, .f32⟩
  | 74 => ⟨S8x56x58x64, .f32⟩
  | 75 => ⟨S8x56x58x64, .f32⟩
  | 76 => ⟨S8x56x1x58x64, .f32⟩
  | 77 => ⟨S8x56x1x58x64, .f32⟩
  | 78 => ⟨S8x56x1x58x64, .f32⟩
  | 79 => ⟨S8x56x3x58x64, .f32⟩
  | 80 => ⟨S8x56x3x56x64, .f32⟩
  | 81 => ⟨S8x56x3x56x64, .f32⟩
  | 82 => ⟨S8x56x3x56x64, .f32⟩
  | 83 => ⟨S8x56x3x56x1x64, .f32⟩
  | 84 => ⟨S8x56x3x56x1x64, .f32⟩
  | 85 => ⟨S8x56x3x56x1x64, .f32⟩
  | 86 => ⟨S8x56x3x56x3x64, .f32⟩
  | 87 => ⟨S8x56x56x64, .f32⟩
  | 88 => ⟨S1x1x1x64, .f32⟩
  | 89 => ⟨S8x56x56x64, .f32⟩
  | 90 => ⟨S8x56x56x64, .f32⟩
  | 91 => ⟨S25088x64, .f32⟩
  | 92 => ⟨S25088x64, .f32⟩
  | 93 => ⟨S_, .f32⟩
  | 94 => ⟨S25088, .f32⟩
  | 95 => ⟨S25088x1, .f32⟩
  | 96 => ⟨S64x1024, .f32⟩
  | 97 => ⟨S25088x1024, .f32⟩
  | 98 => ⟨S_, .f32⟩
  | 99 => ⟨S25088x1024, .f32⟩
  | 100 => ⟨S25088x1024, .f32⟩
  | 101 => ⟨S25088x1024, .f32⟩
  | 102 => ⟨S25088x1024, .f32⟩
  | 103 => ⟨S1024x64, .f32⟩
  | 104 => ⟨S_, .f32⟩
  | 105 => ⟨S1024, .f32⟩
  | 106 => ⟨S1x1024, .f32⟩
  | 107 => ⟨S25088x1024, .f32⟩
  | 108 => ⟨S25088x1024, .f32⟩
  | 109 => ⟨S25088x1024, .i32⟩
  | 110 => ⟨S_, .f32⟩
  | 111 => ⟨S_, .i32⟩
  | 112 => ⟨S25088, .f32⟩
  | 113 => ⟨S25088, .i32⟩
  | 114 => ⟨S_, .i32⟩
  | 115 => ⟨S25088, .i32⟩
  | 116 => ⟨S25088, .i1⟩
  | 117 => ⟨S_, .i32⟩
  | 118 => ⟨S25088, .i32⟩
  | 119 => ⟨S25088, .i32⟩
  | 120 => ⟨S25088, .i32⟩
  | 121 => ⟨S25088x1, .i32⟩
  | 122 => ⟨S1, .i32⟩
  | 123 => ⟨S_, .i32⟩
  | 124 => ⟨S25088x1, .i32⟩
  | 125 => ⟨S25088x1, .i1⟩
  | 126 => ⟨S1x1, .i32⟩
  | 127 => ⟨S25088x1, .i32⟩
  | _ => ⟨S8x224x224x3, .f32⟩

abbrev hbmTy0_1 (i : Nat) : BufTy := match i % 128 with
  | 0 => ⟨S25088x1, .i1⟩
  | 1 => ⟨S25088x1, .i1⟩
  | 2 => ⟨S_, .i1⟩
  | 3 => ⟨S25088, .i1⟩
  | 4 => ⟨S25088x64, .f32⟩
  | 5 => ⟨S25088x64, .i1⟩
  | 6 => ⟨S_, .f32⟩
  | 7 => ⟨S25088x64, .f32⟩
  | 8 => ⟨S25088x64, .f32⟩
  | 9 => ⟨S8x56x56x64, .f32⟩
  | 10 => ⟨S8x56x56x64, .f32⟩
  | 11 => ⟨S8x56x56x64, .f32⟩
  | 12 => ⟨S_, .f32⟩
  | 13 => ⟨S8x56x56x64, .f32⟩
  | 14 => ⟨S_, .i32⟩
  | 15 => ⟨S_, .f32⟩
  | 16 => ⟨S8x58x58x64, .f32⟩
  | 17 => ⟨S8x56x58x64, .f32⟩
  | 18 => ⟨S8x56x58x64, .f32⟩
  | 19 => ⟨S8x56x58x64, .f32⟩
  | 20 => ⟨S8x56x1x58x64, .f32⟩
  | 21 => ⟨S8x56x1x58x64, .f32⟩
  | 22 => ⟨S8x56x1x58x64, .f32⟩
  | 23 => ⟨S8x56x3x58x64, .f32⟩
  | 24 => ⟨S8x56x3x56x64, .f32⟩
  | 25 => ⟨S8x56x3x56x64, .f32⟩
  | 26 => ⟨S8x56x3x56x64, .f32⟩
  | 27 => ⟨S8x56x3x56x1x64, .f32⟩
  | 28 => ⟨S8x56x3x56x1x64, .f32⟩
  | 29 => ⟨S8x56x3x56x1x64, .f32⟩
  | 30 => ⟨S8x56x3x56x3x64, .f32⟩
  | 31 => ⟨S8x56x56x64, .f32⟩
  | 32 => ⟨S1x1x1x64, .f32⟩
  | 33 => ⟨S8x56x56x64, .f32⟩
  | 34 => ⟨S8x56x56x64, .f32⟩
  | 35 => ⟨S_, .f32⟩
  | 36 => ⟨S8x56x56x64, .f32⟩
  | 37 => ⟨S8x56x56x64, .f32⟩
  | 38 => ⟨S_, .f32⟩
  | 39 => ⟨S8x111x111x64, .f32⟩
  | 40 => ⟨S_, .i32⟩
  | 41 => ⟨S_, .f32⟩
  | 42 => ⟨S8x115x115x64, .f32⟩
  | 43 => ⟨S8x112x115x64, .f32⟩
  | 44 => ⟨S8x112x115x64, .f32⟩
  | 45 => ⟨S8x112x115x64, .f32⟩
  | 46 => ⟨S8x112x115x64, .f32⟩
  | 47 => ⟨S8x112x1x115x64, .f32⟩
  | 48 => ⟨S8x112x1x115x64, .f32⟩
  | 49 => ⟨S8x112x1x115x64, .f32⟩
  | 50 => ⟨S8x112x1x115x64, .f32⟩
  | 51 => ⟨S8x112x4x115x64, .f32⟩
  | 52 => ⟨S8x112x4x112x64, .f32⟩
  | 53 => ⟨S8x112x4x112x64, .f32⟩
  | 54 => ⟨S8x112x4x112x64, .f32⟩
  | 55 => ⟨S8x112x4x112x64, .f32⟩
  | 56 => ⟨S8x112x4x112x1x64, .f32⟩
  | 57 => ⟨S8x112x4x112x1x64, .f32⟩
  | 58 => ⟨S8x112x4x112x1x64, .f32⟩
  | 59 => ⟨S8x112x4x112x1x64, .f32⟩
  | 60 => ⟨S8x112x4x112x4x64, .f32⟩
  | 61 => ⟨S8x112x112x32, .f32⟩
  | 62 => ⟨S1x1x1x32, .f32⟩
  | 63 => ⟨S8x112x112x32, .f32⟩
  | 64 => ⟨S8x112x112x32, .f32⟩
  | 65 => ⟨S_, .f32⟩
  | 66 => ⟨S8x112x112x32, .f32⟩
  | 67 => ⟨S8x112x112x32, .f32⟩
  | 68 => ⟨S_, .f32⟩
  | 69 => ⟨S8x223x223x32, .f32⟩
  | 70 => ⟨S_, .i32⟩
  | 71 => ⟨S_, .f32⟩
  | 72 => ⟨S8x227x227x32, .f32⟩
  | 73 => ⟨S8x224x227x32, .f32⟩
  | 74 => ⟨S8x224x227x32, .f32⟩
  | 75 => ⟨S8x224x227x32, .f32⟩
  | 76 => ⟨S8x224x227x32, .f32⟩
  | 77 => ⟨S8x224x1x227x32, .f32⟩
  | 78 => ⟨S8x224x1x227x32, .f32⟩
  | 79 => ⟨S8x224x1x227x32, .f32⟩
  | 80 => ⟨S8x224x1x227x32, .f32⟩
  | 81 => ⟨S8x224x4x227x32, .f32⟩
  | 82 => ⟨S8x224x4x224x32, .f32⟩
  | 83 => ⟨S8x224x4x224x32, .f32⟩
  | 84 => ⟨S8x224x4x224x32, .f32⟩
  | 85 => ⟨S8x224x4x224x32, .f32⟩
  | 86 => ⟨S8x224x4x224x1x32, .f32⟩
  | 87 => ⟨S8x224x4x224x1x32, .f32⟩
  | 88 => ⟨S8x224x4x224x1x32, .f32⟩
  | 89 => ⟨S8x224x4x224x1x32, .f32⟩
  | 90 => ⟨S8x224x4x224x4x32, .f32⟩
  | 91 => ⟨S8x224x224x3, .f32⟩
  | 92 => ⟨S1x1x1x3, .f32⟩
  | 93 => ⟨S8x224x224x3, .f32⟩
  | 94 => ⟨S8x224x224x3, .f32⟩
  | _ => ⟨S8x224x224x3, .f32⟩

abbrev hbmTy (i : Nat) : BufTy := match i / 128 with
  | 0 => hbmTy0_0 i
  | 1 => hbmTy0_1 i
  | _ => ⟨S8x224x224x3, .f32⟩

abbrev bufTy : (tb : Table) → Fin (tcTables nBuf tb) → BufTy
  | .hbm, ⟨i, _⟩ => hbmTy i
  | _, _ => ⟨S8x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_c_0 : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call3_cst : Ref sig .tc := ⟨.hbm, 67, rfl⟩
abbrev main_call3_v0 : Ref sig .tc := ⟨.hbm, 68, rfl⟩
abbrev main_v47 : Ref sig .tc := ⟨.hbm, 69, rfl⟩
abbrev main_c_1 : Ref sig .tc := ⟨.hbm, 70, rfl⟩
abbrev main_call4_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_2 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_3 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_call5_v0 : Ref sig .tc := ⟨.hbm, 109, rfl⟩
abbrev main_call5_cst : Ref sig .tc := ⟨.hbm, 110, rfl⟩
abbrev main_call5_c : Ref sig .tc := ⟨.hbm, 111, rfl⟩
abbrev main_call5_v1_0 : Ref sig .tc := ⟨.hbm, 112, rfl⟩
abbrev main_v82 : Ref sig .tc := ⟨.hbm, 113, rfl⟩
abbrev main_call6_c : Ref sig .tc := ⟨.hbm, 114, rfl⟩
abbrev main_call6_v0 : Ref sig .tc := ⟨.hbm, 115, rfl⟩
abbrev main_call6_v1 : Ref sig .tc := ⟨.hbm, 116, rfl⟩
abbrev main_call6_c_0 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_c_1 : Ref sig .tc := ⟨.hbm, 122, rfl⟩
abbrev main_call6_c_2 : Ref sig .tc := ⟨.hbm, 123, rfl⟩
abbrev main_call6_v6 : Ref sig .tc := ⟨.hbm, 124, rfl⟩
abbrev main_call6_v7 : Ref sig .tc := ⟨.hbm, 125, rfl⟩
abbrev main_call6_v8 : Ref sig .tc := ⟨.hbm, 126, rfl⟩
abbrev main_call6_v9 : Ref sig .tc := ⟨.hbm, 127, rfl⟩
abbrev main_call6_v10 : Ref sig .tc := ⟨.hbm, 128, rfl⟩
abbrev main_call6_v11 : Ref sig .tc := ⟨.hbm, 129, rfl⟩
abbrev main_call6_c_3 : Ref sig .tc := ⟨.hbm, 130, rfl⟩
abbrev main_call6_v12 : Ref sig .tc := ⟨.hbm, 131, rfl⟩
abbrev main_call6_v13 : Ref sig .tc := ⟨.hbm, 132, rfl⟩
abbrev main_call6_v14 : Ref sig .tc := ⟨.hbm, 133, rfl⟩
abbrev main_call6_cst : Ref sig .tc := ⟨.hbm, 134, rfl⟩
abbrev main_call6_v15 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_4 : Ref sig .tc := ⟨.hbm, 140, rfl⟩
abbrev main_v87 : Ref sig .tc := ⟨.hbm, 141, rfl⟩
abbrev main_c_5 : Ref sig .tc := ⟨.hbm, 142, rfl⟩
abbrev main_call7_v0 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_call8_cst : Ref sig .tc := ⟨.hbm, 163, rfl⟩
abbrev main_call8_v0 : Ref sig .tc := ⟨.hbm, 164, rfl⟩
abbrev main_v107 : Ref sig .tc := ⟨.hbm, 165, rfl⟩
abbrev main_cst_6 : Ref sig .tc := ⟨.hbm, 166, rfl⟩
abbrev main_v108 : Ref sig .tc := ⟨.hbm, 167, rfl⟩
abbrev main_c_7 : Ref sig .tc := ⟨.hbm, 168, rfl⟩
abbrev main_call9_v0 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_call10_cst : Ref sig .tc := ⟨.hbm, 193, rfl⟩
abbrev main_call10_v0 : Ref sig .tc := ⟨.hbm, 194, rfl⟩
abbrev main_v132 : Ref sig .tc := ⟨.hbm, 195, rfl⟩
abbrev main_cst_8 : Ref sig .tc := ⟨.hbm, 196, rfl⟩
abbrev main_v133 : Ref sig .tc := ⟨.hbm, 197, rfl⟩
abbrev main_c_9 : Ref sig .tc := ⟨.hbm, 198, rfl⟩
abbrev main_call11_v0 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩

abbrev nD : Nat := 1
abbrev τ : Topo := Topo.v7x

variable {F : FTy → Type} [FloatOps F]
-- ==== Proof.Spec.lean ====
/- The mathematics of both programs: images as functions of two natural coordinates and a channel, convolutions over
   them, and the total reads of an array at natural coordinates. -/
module

public import Idealize.ShloMosaic.Lib.Pointwise
public import Idealize.ShloMosaic.PureOps.Ideal

@[expose] public section

noncomputable section

namespace Cert.Vq

open Idealize.ShloMosaic Finset

/-- An image: a value at every row, column and channel; what lies outside its frame is never asked for. -/
abbrev Img (C : ℕ) := ℕ → ℕ → Fin C → EReal

/-- Taps: a matrix for every row and column of the window. -/
abbrev Taps (C O : ℕ) := ℕ → ℕ → Fin C → Fin O → EReal

/-- The image of height `H` and width `W` set at `(p, p)` in a field of zeros. -/
def padN {C : ℕ} (p H W : ℕ) (f : Img C) : Img C := fun y x c =>
  if p ≤ y ∧ y < p + H ∧ p ≤ x ∧ x < p + W then f (y - p) (x - p) c else 0

/-- The image of height and width `H` spread out: a zero between neighbours and two all round. -/
def spread {C : ℕ} (H : ℕ) (f : Img C) : Img C := fun y x c =>
  if (2 ≤ y ∧ y % 2 = 0 ∧ (y - 2) / 2 < H) ∧ (2 ≤ x ∧ x % 2 = 0 ∧ (x - 2) / 2 < H) then f ((y - 2) / 2) ((x - 2) / 2) c else 0

/-- One tap: the channels of one place against a matrix. -/
def tap {C O : ℕ} (f : Img C) (w : Fin C → Fin O → EReal) (y x : ℕ) (o : Fin O) : EReal := ∑ c, f y x c * w c o

/-- The convolution of a window of `k` by `k` with stride `s`. -/
def conv {C O : ℕ} (k s : ℕ) (f : Img C) (w : Taps C O) : Img O := fun y x o =>
  ∑ u : Fin k, ∑ v : Fin k, tap f (w u v) (s * y + u) (s * x + v) o

/-- A vector read at a natural place. -/
def at1 {a : ℕ} [NeZero a] (A : (⟨1, ![a]⟩ : Shape).Idx → EReal) (i : Fin a) : EReal := A (ix1 i)
/-- A matrix read at natural places of its first axis. -/
def at2 {a b : ℕ} [NeZero a] (A : (⟨2, ![a, b]⟩ : Shape).Idx → EReal) (i : ℕ) (j : Fin b) : EReal := A (ix2 (Fin.ofNat a i) j)
/-- An array of rank three read at natural places of its first two axes. -/
def at3 {a b c : ℕ} [NeZero a] [NeZero b] (A : (⟨3, ![a, b, c]⟩ : Shape).Idx → EReal) : Img c := fun i j k =>
  A (ix3 (Fin.ofNat a i) (Fin.ofNat b j) k)
/-- An array of rank four read at natural places of its first two axes. -/
def at4 {a b c d : ℕ} [NeZero a] [NeZero b] (A : (⟨4, ![a, b, c, d]⟩ : Shape).Idx → EReal) : Taps c d := fun i j k l =>
  A (ix4 (Fin.ofNat a i) (Fin.ofNat b j) k l)

/-- One picture of a stack of them, as an image. -/
def img {n a b c : ℕ} [NeZero a] [NeZero b] (A : (⟨4, ![n, a, b, c]⟩ : Shape).Idx → EReal) (t : Fin n) : Img c := fun i j k =>
  A (ix4 t (Fin.ofNat a i) (Fin.ofNat b j) k)

/-- A bounded number is its own remainder. -/
theorem mk_ofNat {n k : ℕ} [NeZero n] (h : k < n) : (⟨k, h⟩ : Fin n) = Fin.ofNat n k := Fin.ext (Nat.mod_eq_of_lt h).symm

/-- A coordinate is the remainder of its own value. -/
theorem ofNat_val {n : ℕ} [NeZero n] (i : Fin n) : Fin.ofNat n i = i := Fin.ext (Nat.mod_eq_of_lt i.2)

/-- The integer zero as a float. -/
theorem sitofp_zero : (FloatOps.sitofp (F := Ideal) .f32 (0#32) : EReal) = 0 := by
  show (((0#32 : BitVec 32).toInt : ℝ) : EReal) = 0
  simp

/-- A conditional read with zero outside, its condition and its value known in another form. -/
theorem dite_zero_eq {P Q : Prop} [Decidable P] [Decidable Q] {a : P → EReal} {b : EReal} {z : EReal} (hz : z = 0) (e : P ↔ Q)
    (v : ∀ h : P, a h = b) : (if h : P then a h else z) = if Q then b else 0 := by
  by_cases h : P
  · rw [dif_pos h, if_pos (e.mp h), v h]
  · rw [dif_neg h, if_neg fun q => h (e.mpr q), hz]

/-- The same of a read under two conditions. -/
theorem dite_two_eq {P R Q : Prop} [Decidable P] [Decidable R] [Decidable Q] {a : P → R → EReal} {b : EReal} {z : EReal} (hz : z = 0)
    (e : P ∧ R ↔ Q) (v : ∀ h r, a h r = b) : (if h : P then (if r : R then a h r else 0) else z) = if Q then b else 0 := by
  by_cases h : P
  · rw [dif_pos h]
    exact dite_zero_eq rfl ⟨fun r => e.mp ⟨h, r⟩, fun q => (e.mpr q).2⟩ fun r => v h r
  · rw [dif_neg h, if_neg fun q => h (e.mpr q).1, hz]

end Cert.Vq

end
-- ==== Proof.Conv.lean ====
/- A convolution as the reference spells it: a product over patches, read at an index; and the reading of joins. -/
module

public import proofs.«01_k».proof.Proof.Spec
public import Idealize.ShloMosaic.Lib.StableHlo.ReadAt

@[expose] public section

set_option Elab.async false

noncomputable section

namespace Cert.Vq

open Idealize.ShloMosaic Idealize.ShloMosaic.TcCoe Idealize.SL.Sem Idealize.ShloMosaic.StableHlo

/-- A sum over an index set of three axes is the triple sum over its coordinates. -/
theorem sum_three {s : Shape} (h : s.rank = 3) (A B C : ℕ) (h0 : s.size ⟨0, by omega⟩ = A) (h1 : s.size ⟨1, by omega⟩ = B)
    (h2 : s.size ⟨2, by omega⟩ = C) {f : s.Idx → EReal} {g : Fin A → Fin B → Fin C → EReal}
    (e : ∀ k : s.Idx, f k = g ((k ⟨0, by omega⟩).cast h0) ((k ⟨1, by omega⟩).cast h1) ((k ⟨2, by omega⟩).cast h2)) :
    ∑ k, f k = ∑ a, ∑ b, ∑ c, g a b c := by
  obtain ⟨r, sz⟩ := s
  dsimp only at h
  subst h
  dsimp only at h0 h1 h2
  subst h0; subst h1; subst h2
  rw [← Fintype.sum_prod_type', ← Fintype.sum_prod_type']
  refine Fintype.sum_bijective (fun k : Shape.Idx ⟨3, sz⟩ => ((k 0, k 1), k 2)) ⟨?_, ?_⟩ _ _ fun k => e k
  · intro p q hpq
    simp only [Prod.mk.injEq] at hpq
    funext a
    fin_cases a
    · exact hpq.1.1
    · exact hpq.1.2
    · exact hpq.2
  · intro p
    refine ⟨fun a => match a with | 0 => p.1.1 | 1 => p.1.2 | 2 => p.2, rfl⟩

/-- The product over patches at an index: the sum over the two window offsets and the channel. -/
theorem dot_patch {N H K W L C O : ℕ} (D : DotDims ⟨6, ![N, H, K, W, L, C]⟩ ⟨4, ![K, L, C, O]⟩ ⟨4, ![N, H, W, O]⟩)
    (e1 : D.lhsContracting = [2, 4, 5]) (e2 : D.rhsContracting = [0, 1, 2]) (e3 : D.lhsNonContracting = [0, 1, 3])
    (e4 : D.rhsNonContracting = [3]) (e5 : D.lhsBatch = []) (e6 : D.rhsBatch = [])
    (l : FVec Ideal ⟨6, ![N, H, K, W, L, C]⟩ .f32) (r : FVec Ideal ⟨4, ![K, L, C, O]⟩ .f32) (n : Fin N) (y : Fin H) (x : Fin W) (o : Fin O) :
    Ideal.matmul D l r (fun _ => 0) (ix4 n y x o) = ∑ u, ∑ v, ∑ c, l (ix6 n y u x v c) * r (ix4 u v c o) := by
  obtain ⟨_, _, _, _, _, _, wf⟩ := D
  dsimp only at e1 e2 e3 e4 e5 e6
  subst e1; subst e2; subst e3; subst e4; subst e5; subst e6
  unfold Ideal.matmul
  rw [zero_add]
  refine sum_three rfl K L C rfl rfl rfl fun k => ?_
  congr 1
  · congr 1
    funext a
    fin_cases a <;> rfl
  · congr 1
    funext a
    fin_cases a <;> rfl

section Joins

variable {τ : Topo} {sig : RefSig} {Val : EltTy → Type} {x a b c y : Ref sig .tc}

/-- A function of a family of four, its operands as plain arguments. -/
def app4 (f : ((k : Fin 4) → ((![x, a, b, c] : Fin 4 → Ref sig .tc) k).ty.Contents Val) → y.ty.Contents Val)
    (p : x.ty.Contents Val) (q : a.ty.Contents Val) (r : b.ty.Contents Val) (s : c.ty.Contents Val) : y.ty.Contents Val :=
  f fun k => match k with | 0 => p | 1 => q | 2 => r | 3 => s

/-- A function of a family of three, its operands as plain arguments. -/
def app3 (f : ((k : Fin 3) → ((![x, a, b] : Fin 3 → Ref sig .tc) k).ty.Contents Val) → y.ty.Contents Val)
    (p : x.ty.Contents Val) (q : a.ty.Contents Val) (r : b.ty.Contents Val) : y.ty.Contents Val :=
  f fun k => match k with | 0 => p | 1 => q | 2 => r

/-- What a four-operand operation leaves, its operands read apart. -/
theorem join4 (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = app4 f (F (Proc.devRef .tc x)) (F (Proc.devRef .tc a)) (F (Proc.devRef .tc b)) (F (Proc.devRef .tc c)) := by
  rw [nary_result]
  unfold app4
  congr 1
  funext k
  fin_cases k <;> rfl

/-- What a three-operand operation leaves, its operands read apart. -/
theorem join3 (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = app3 f (F (Proc.devRef .tc x)) (F (Proc.devRef .tc a)) (F (Proc.devRef .tc b)) := by
  rw [nary_result]
  unfold app3
  congr 1
  funext k
  fin_cases k <;> rfl

end Joins

end Cert.Vq

end
-- ==== Proof.RefOps.lean ====
/- The reference's host operations, read off its printed text as one list. -/
module

public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The operations of the reference in order, with the proof that its program is this line. -/
def line : { ops : List (HloOp τ sig (Elt F)) // ∀ d : Dev nD, IsSeq (main (F := F) d) ops }  :=
  by
  apply Subtype.mk
  hlo_seq

set_option maxRecDepth 16384 in
set_option maxHeartbeats 4000000 in
/-- Every operation touches host buffers only. -/
theorem line_bufs : (line (F := F)).1.Forall fun op => op.bufs ⊆ tcRefs τ sig := by
  unfold line
  simp only [List.Forall, TRef.nullary, TRef.unary, TRef.binary, TRef.ternary, TRef.quaternary, nullary_bufs_sub, unary_bufs_sub,
    binary_bufs_sub, ternary_bufs_sub, quaternary_bufs_sub, reshape_bufs_sub, nary_bufs_sub, unaryIndexed_bufs_sub, and_self]

set_option maxRecDepth 16384 in
set_option maxHeartbeats 4000000 in
/-- No operation takes a fresh buffer. -/
theorem line_fresh : ∀ op ∈ (line (F := F)).1, op.fresh = ∅ := by
  refine List.forall_iff_forall_mem.mp ?_
  unfold line
  repeat' (first | rfl | refine And.intro ?_ ?_)

/-- The reference runs to the end, and every buffer then holds what the line leaves there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after line.1 (launchContents m d) (Proc.devRef .tc b) :=
  run_hlo defs main line.2 (by decide) (by decide) line_bufs line_fresh m ρ

/-- The argument buffers. -/
abbrev argRefs : List (Ref sig .tc) :=
  [main_arg0, main_arg1, main_arg2, main_arg3, main_arg4, main_arg5, main_arg6, main_arg7, main_arg8, main_arg9, main_arg10,
    main_arg11, main_arg12, main_arg13]

set_option maxRecDepth 16384 in
set_option maxHeartbeats 4000000 in
/-- The line leaves the argument buffers as they were. -/
theorem line_args (V : Valuation τ sig (Elt F)) : ∀ a ∈ argRefs, after line.1 V (Proc.devRef .tc a) = V (Proc.devRef .tc a) := by
  have h : (line (F := F)).1.Forall fun op => ∀ a ∈ argRefs, Proc.devRef (τ := τ) .tc a ∉ op.writes := by
    unfold line
    repeat' (first
      | refine And.intro ?_ ?_
      | (intro a ha hb
         have e := Proc.devRef_injective _ (Finset.mem_singleton.mp hb)
         subst e
         revert ha
         decide))
  intro a ha
  exact after_of_forall_not_mem _ V fun op hop => List.forall_iff_forall_mem.mp h op hop a ha

end Cert.RefRun

end
-- ==== Proof.RefEnc.lean ====
/- The reference's encoder, each layer as a convolution of the padded image before it. -/
module

public import proofs.«01_k».proof.Proof.Conv
public import proofs.«01_k».proof.Proof.RefOps

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo Cert.Vq

/-- The operations of the reference from the `a`-th on, `b` of them. -/
def seg (a b : ℕ) : List (HloOp τ sig (Elt Ideal)) := (line.1.drop a).take b

set_option maxRecDepth 16384 in
set_option maxHeartbeats 4000000 in
/-- The picture in a frame of zeros. -/
theorem pad1 (V : Valuation τ sig (Elt Ideal)) (n : Fin 8) (y x : Fin 226) (c : Fin 3) :
    (after (seg 0 3) V (Proc.devRef .tc main_v0) : S8x226x226x3.Idx → EReal) (ix4 n y x c) = padN 1 224 224 (img (V (Proc.devRef .tc main_arg0)) n) y x c := by
  unfold seg line
  simp only [List.drop_succ_cons, List.take_succ_cons, List.drop_zero, List.take_zero]
  after_reads_at
  exact dite_zero_eq sitofp_zero (by constructor <;> intro h <;> omega) fun h => by simp only [img, mk_ofNat]

set_option maxRecDepth 16384 in
set_option maxHeartbeats 8000000 in
/-- The first layer. -/
theorem conv1 (V : Valuation τ sig (Elt Ideal)) (n : Fin 8) (y x : Fin 112) (o : Fin 32) :
    (after (seg 3 25) V (Proc.devRef .tc main_v23) : S8x112x112x32.Idx → EReal) (ix4 n y x o) =
      max (conv 4 2 (img (V (Proc.devRef .tc main_v0)) n) (at4 (V (Proc.devRef .tc main_arg1))) y x o + (V (Proc.devRef .tc main_arg2) : S32.Idx → EReal) (ix1 o)) 0 := by
  unfold seg line
  simp only [List.drop_succ_cons, List.take_succ_cons, List.drop_zero, List.take_zero]
  simp (disch := decide) only [readAfter, readUpto, nullary_result', unary_result', binary_result', join4, join3]
  try simp -implicitDefEqProofs only [StableHlo.TRef.toBuf, StableHlo.TRef.ofBuf, cast_cast, cast_eq]
  clean_types
  pointwise
  rw [dot_patch _ rfl rfl rfl rfl rfl rfl]
  dsimp only [app4, app3]
  pointwise
  refine congrArg (fun t => max (t + _) 0) ?_
  refine Finset.sum_congr rfl fun u _ => Finset.sum_congr rfl fun v _ => Finset.sum_congr rfl fun c _ => ?_
  refine congrArg₂ (· * ·) ?_ (by simp only [at4, ofNat_val])
  fin_cases u <;> fin_cases v <;> simp [img, mk_ofNat, Nat.add_comm]

set_option maxRecDepth 16384 in
set_option maxHeartbeats 4000000 in
/-- The first layer's output in a frame of zeros. -/
theorem pad2 (V : Valuation τ sig (Elt Ideal)) (n : Fin 8) (y x : Fin 114) (c : Fin 32) :
    (after (seg 28 3) V (Proc.devRef .tc main_v24) : S8x114x114x32.Idx → EReal) (ix4 n y x c) = padN 1 112 112 (img (V (Proc.devRef .tc main_v23)) n) y x c := by
  unfold seg line
  simp only [List.drop_succ_cons, List.take_succ_cons, List.drop_zero, List.take_zero]
  after_reads_at
  exact dite_zero_eq sitofp_zero (by constructor <;> intro h <;> omega) fun h => by simp only [img, mk_ofNat]

set_option maxRecDepth 16384 in
set_option maxHeartbeats 8000000 in
/-- The second layer. -/
theorem conv2 (V : Valuation τ sig (Elt Ideal)) (n : Fin 8) (y x : Fin 56) (o : Fin 64) :
    (after (seg 31 25) V (Proc.devRef .tc main_v47) : S8x56x56x64.Idx → EReal) (ix4 n y x o) =
      max (conv 4 2 (img (V (Proc.devRef .tc main_v24)) n) (at4 (V (Proc.devRef .tc main_arg3))) y x o + (V (Proc.devRef .tc main_arg4) : S64.Idx → EReal) (ix1 o)) 0 := by
  unfold seg line
  simp only [List.drop_succ_cons, List.take_succ_cons, List.drop_zero, List.take_zero]
  simp (disch := decide) only [readAfter, readUpto, nullary_result', unary_result', binary_result', join4, join3]
  try simp -implicitDefEqProofs only [StableHlo.TRef.toBuf, StableHlo.TRef.ofBuf, cast_cast, cast_eq]
  clean_types
  pointwise
  rw [dot_patch _ rfl rfl rfl rfl rfl rfl]
  dsimp only [app4, app3]
  pointwise
  refine congrArg (fun t => max (t + _) 0) ?_
  refine Finset.sum_congr rfl fun u _ => Finset.sum_congr rfl fun v _ => Finset.sum_congr rfl fun c _ => ?_
  refine congrArg₂ (· * ·) ?_ (by simp only [at4, ofNat_val])
  fin_cases u <;> fin_cases v <;> simp [img, mk_ofNat, Nat.add_comm]

set_option maxRecDepth 16384 in
set_option maxHeartbeats 4000000 in
/-- The second layer's output in a frame of zeros. -/
theorem pad3 (V : Valuation τ sig (Elt Ideal)) (n : Fin 8) (y x : Fin 58) (c : Fin 64) :
    (after (seg 56 3) V (Proc.devRef .tc main_v48) : S8x58x58x64.Idx → EReal) (ix4 n y x c) = padN 1 56 56 (img (V (Proc.devRef .tc main_v47)) n) y x c := by
  unfold seg line
  simp only [List.drop_succ_cons, List.take_succ_cons, List.drop_zero, List.take_zero]
  after_reads_at
  exact dite_zero_eq sitofp_zero (by constructor <;> intro h <;> omega) fun h => by simp only [img, mk_ofNat]

set_option maxRecDepth 16384 in
set_option maxHeartbeats 8000000 in
/-- The third layer. -/
theorem conv3 (V : Valuation τ sig (Elt Ideal)) (n : Fin 8) (y x : Fin 56) (o : Fin 64) :
    (after (seg 59 18) V (Proc.devRef .tc main_v66) : S8x56x56x64.Idx → EReal) (ix4 n y x o) =
      conv 3 1 (img (V (Proc.devRef .tc main_v48)) n) (at4 (V (Proc.devRef .tc main_arg5))) y x o + (V (Proc.devRef .tc main_arg6) : S64.Idx → EReal) (ix1 o) := by
  unfold seg line
  simp only [List.drop_succ_cons, List.take_succ_cons, List.drop_zero, List.take_zero]
  simp (disch := decide) only [readAfter, readUpto, nullary_result', unary_result', binary_result', join4, join3]
  try simp -implicitDefEqProofs only [StableHlo.TRef.toBuf, StableHlo.TRef.ofBuf, cast_cast, cast_eq]
  clean_types
  pointwise
  rw [dot_patch _ rfl rfl rfl rfl rfl rfl]
  dsimp only [app4, app3]
  pointwise
  refine congrArg (fun t => t + _) ?_
  refine Finset.sum_congr rfl fun u _ => Finset.sum_congr rfl fun v _ => Finset.sum_congr rfl fun c _ => ?_
  refine congrArg₂ (· * ·) ?_ (by simp only [at4, ofNat_val])
  fin_cases u <;> fin_cases v <;> simp [img, mk_ofNat, Nat.add_comm]

end Cert.RefRun

end
-- ==== Proof.Vq.lean ====
/- Quantisation as mathematics: the distance of a vector to the codewords, and the first codeword that minimises it. -/
module

public import proofs.«01_k».proof.Proof.Spec

@[expose] public section

noncomputable section

namespace Cert.Vq

open Idealize.ShloMosaic Finset

/-- The squared distance of a vector to the codewords, in the order in which both programs compute it. -/
def dist (h : Fin 64 → EReal) (cb : ℕ → Fin 64 → EReal) (j : Fin 1024) : EReal :=
  ∑ c, h c * h c - Ideal.ofBits .f32 1073741824#32 * ∑ c, h c * cb j c + ∑ c, cb j c * cb j c

/-- `j` is the first place at which `d` is least. -/
def FirstMin {n : ℕ} (d : Fin n → EReal) (j : Fin n) : Prop := ∀ k, d j < d k ∨ (d j = d k ∧ j ≤ k)

/-- There is at most one first least place. -/
theorem FirstMin.unique {n : ℕ} {d : Fin n → EReal} {i j : Fin n} (hi : FirstMin d i) (hj : FirstMin d j) : i = j := by
  rcases hi j with a | ⟨a, a'⟩ <;> rcases hj i with b | ⟨b, b'⟩
  · exact absurd (a.trans b) (lt_irrefl _)
  · exact absurd a (b ▸ lt_irrefl _)
  · exact absurd b (a ▸ lt_irrefl _)
  · exact le_antisymm a' b'

/-- A fold that keeps the lesser of two ends at one of its terms, at or below all of them. -/
theorem foldl_least {β : Type} {f : β → β → β} {R : β → β → Prop} (refl : ∀ a, R a a) (trans : ∀ a b c, R a b → R b c → R a c)
    (hf : ∀ a b, (f a b = a ∨ f a b = b) ∧ R (f a b) a ∧ R (f a b) b) (L : List β) :
    ∀ i, (L.foldl f i = i ∨ L.foldl f i ∈ L) ∧ R (L.foldl f i) i ∧ ∀ p ∈ L, R (L.foldl f i) p := by
  induction L with
  | nil => exact fun i => ⟨.inl rfl, refl _, fun p hp => absurd hp List.not_mem_nil⟩
  | cons q L ih =>
    intro i
    obtain ⟨m, l, h⟩ := ih (f i q)
    obtain ⟨e, hi, hq⟩ := hf i q
    refine ⟨?_, trans _ _ _ l hi, fun p hp => ?_⟩
    · rcases m with m | m
      · rcases e with e | e
        · exact .inl (m.trans e)
        · exact .inr (by rw [List.foldl_cons, m, e]; exact List.mem_cons_self)
      · exact .inr (List.mem_cons_of_mem _ m)
    · rcases List.mem_cons.mp hp with rfl | hp
      · exact trans _ _ _ l hq
      · exact h p hp

/-- The order on pairs: by value, then by index. -/
def Before (p q : EReal × BitVec 32) : Prop := p.1 < q.1 ∨ (p.1 = q.1 ∧ p.2.toInt ≤ q.2.toInt)

/-- Every pair is before itself. -/
theorem Before.refl (p : EReal × BitVec 32) : Before p p := .inr ⟨rfl, le_rfl⟩

/-- Being before passes along. -/
theorem Before.trans (p q r : EReal × BitVec 32) (a : Before p q) (b : Before q r) : Before p r := by
  rcases a with a | ⟨a, a'⟩ <;> rcases b with b | ⟨b, b'⟩
  · exact .inl (a.trans b)
  · exact .inl (b ▸ a)
  · exact .inl (a ▸ b)
  · exact .inr ⟨a.trans b, a'.trans b'⟩

/-- The pattern of the infinity. -/
theorem inf_bits : Ideal.ofBits .f32 2139095040#32 = ⊤ := by
  simp [Ideal.ofBits, Ideal.ieee]

/-- A small number as a word, read signed. -/
theorem toInt_small (k : Fin 1024) : (BitVec.ofNat 32 k.val).toInt = k.val := by
  have := k.2
  rw [BitVec.toInt_eq_toNat_cond, BitVec.toNat_ofNat, Nat.mod_eq_of_lt (by omega)]
  split <;> omega

end Cert.Vq

end
-- ==== Proof.RefVq.lean ====
/- The reference's quantisation: the distances, the first nearest codeword and its row of the codebook. -/
module

public import proofs.«01_k».proof.Proof.RefEnc
public import proofs.«01_k».proof.Proof.Vq
public import Idealize.ShloMosaic.Lib.Routing.Ops

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo Cert.Vq

/-- The distance written out at a place known by another name. -/
theorem dist_same (h : S8x56x56x64.Idx → EReal) (cb : S1024x64.Idx → EReal) (j : Fin 1024) {n : Fin 8} {y x : Fin 56} (a : Fin 8)
    (b c : Fin 56) (e1 : a = n) (e2 : b = y) (e3 : c = x) :
    ∑ k : Fin 64, h (ix4 a b c k) * h (ix4 a b c k) - Ideal.ofBits .f32 1073741824#32 * ∑ k : Fin 64, h (ix4 a b c k) * cb (ix2 j k)
        + ∑ k : Fin 64, cb (ix2 j k) * cb (ix2 j k)
      = ∑ k : Fin 64, h (ix4 n y x k) * h (ix4 n y x k) - Ideal.ofBits .f32 1073741824#32 * ∑ k : Fin 64, h (ix4 n y x k) * cb (ix2 j k)
        + ∑ k : Fin 64, cb (ix2 j k) * cb (ix2 j k) := by
  subst e1 e2 e3
  rfl

set_option maxRecDepth 16384 in
set_option maxHeartbeats 8000000 in
/-- The distances of the place `(n, y, x)`. -/
theorem dist_at (V : Valuation τ sig (Elt Ideal)) (n : Fin 8) (y x : Fin 56) (r : Fin 25088) (hr : r.val = n * 3136 + y * 56 + x) (j : Fin 1024) :
    (after (seg 77 18) V (Proc.devRef .tc main_v81) : S25088x1024.Idx → EReal) (ix2 r j)
      = dist (img (V (Proc.devRef .tc main_v66)) n y x) (at2 (V (Proc.devRef .tc main_arg7))) j := by
  have e1 : (⟨r.val / 3136, by omega⟩ : Fin 8) = n := Fin.ext (by show r.val / 3136 = n; omega)
  have e2 : (⟨r.val / 56 % 56, by omega⟩ : Fin 56) = y := Fin.ext (by show r.val / 56 % 56 = y; omega)
  have e3 : (⟨r.val % 56, by omega⟩ : Fin 56) = x := Fin.ext (by show r.val % 56 = x; omega)
  unfold seg line
  simp only [List.drop_succ_cons, List.take_succ_cons, List.drop_zero, List.take_zero]
  after_reads_at
  simp -implicitDefEqProofs only [Vq.dist, Vq.img, Vq.at2, Vq.ofNat_val]
  exact dist_same (V (Proc.devRef .tc main_v66)) (V (Proc.devRef .tc main_arg7)) j _ _ _ e1 e2 e3

/-- The reducer keeps one of two pairs, the one that comes first. -/
theorem reducer_least (a b : EReal × BitVec 32) :
    (reducer_argmin_f32_i32 (F := Ideal) a b = a ∨ reducer_argmin_f32_i32 (F := Ideal) a b = b) ∧
      Before (reducer_argmin_f32_i32 (F := Ideal) a b) a ∧ Before (reducer_argmin_f32_i32 (F := Ideal) a b) b := by
  obtain ⟨p, i⟩ := a
  obtain ⟨q, j⟩ := b
  simp only [reducer_argmin_f32_i32, Ideal.cmpf_def, Ideal.cmp, IntOp.cmpi, IntOp.ori, IntOp.andi, Scalar.select, Before,
    BitVec.slt_eq_decide]
  rcases lt_trichotomy p q with h | h | h
  · simp [h, h.ne]
  · subst h
    by_cases g : i.toInt < j.toInt
    · simp [g, g.le]
    · simp [g, not_lt.mp g]
  · simp [h, h.ne', not_lt.mpr h.le]

/-- The arg-min of a row of an array is the row's first least place. -/
theorem argmin_first (D : FVec Ideal S25088x1024 .f32) (r : Fin 25088) :
    ∃ j : Fin 1024, (Host.argReduce reducer_argmin_f32_i32 D (iotaInDim S25088x1024 32 1)
        (constant (F := Ideal) S_ FTy.f32 2139095040#32) (constantI S_ 32 0#32) reducesTo_S25088x1024_S25088_d1 h_S_ (ix1 r)).2 = BitVec.ofNat 32 j ∧
      FirstMin (fun j => (D (ix2 r j) : EReal)) j := by
  rw [Ideal.argReduce_eq_reduce2, Host.reduce2_eq_foldl_fiber]
  have mem : ∀ p, p ∈ Host.argReduceFiber D (iotaInDim S25088x1024 32 1) reducesTo_S25088x1024_S25088_d1 (ix1 r) ↔
      ∃ k : Fin 1024, p = (D (ix2 r k), BitVec.ofNat 32 k) := by
    intro p
    unfold Host.argReduceFiber
    simp only [List.mem_map, List.mem_filter, List.mem_finRange, true_and, decide_eq_true_eq]
    constructor
    · rintro ⟨m, hm, rfl⟩
      generalize S25088x1024.rowMajor.symm m = i at hm ⊢
      have h0 : (i 0).val = r.val := congrArg (fun t : S25088.Idx => (t 0).val) hm
      have hi : i = ix2 r (i 1) := by
        rw [eq_ix2 i]
        congr 1
        exact Fin.ext h0
      exact ⟨i 1, by rw [hi]; rfl⟩
    · rintro ⟨k, rfl⟩
      refine ⟨S25088x1024.rowMajor (ix2 r k), ?_, ?_⟩
      · rw [Equiv.symm_apply_apply]
        funext a
        fin_cases a
        rfl
      · rw [Equiv.symm_apply_apply]
        rfl
  obtain ⟨e, h0, hle⟩ := foldl_least Before.refl Before.trans reducer_least
    (Host.argReduceFiber D (iotaInDim S25088x1024 32 1) reducesTo_S25088x1024_S25088_d1 (ix1 r))
    (constant (F := Ideal) S_ FTy.f32 2139095040#32 (Shape.Idx.first h_S_), constantI S_ 32 0#32 (Shape.Idx.first h_S_))
  have top : (constant (F := Ideal) S_ FTy.f32 2139095040#32 (Shape.Idx.first h_S_) : EReal) = ⊤ := by
    show Ideal.ofBits .f32 2139095040#32 = ⊤
    exact inf_bits
  rcases e with e | e
  · rw [e] at hle ⊢
    refine ⟨0, rfl, fun k => ?_⟩
    have hk := hle _ ((mem _).mpr ⟨k, rfl⟩)
    have h0' := hle _ ((mem _).mpr ⟨0, rfl⟩)
    unfold Before at hk h0'
    rw [top] at hk h0'
    have ek : (D (ix2 r k) : EReal) = ⊤ := by
      rcases hk with hk | hk
      · exact absurd hk not_top_lt
      · exact hk.1.symm
    have e0 : (D (ix2 r 0) : EReal) = ⊤ := by
      rcases h0' with hk | hk
      · exact absurd hk not_top_lt
      · exact hk.1.symm
    exact .inr ⟨e0.trans ek.symm, Fin.zero_le _⟩
  · obtain ⟨j, hj⟩ := (mem _).mp e
    rw [hj] at hle ⊢
    refine ⟨j, rfl, fun k => ?_⟩
    rcases hle _ ((mem _).mpr ⟨k, rfl⟩) with a | ⟨a, b⟩
    · exact .inl a
    · refine .inr ⟨a, ?_⟩
      have b' : (BitVec.ofNat 32 j.val).toInt ≤ (BitVec.ofNat 32 k.val).toInt := b
      rw [toInt_small, toInt_small] at b'
      exact Fin.le_def.mpr (by exact_mod_cast b')

set_option maxRecDepth 16384 in
set_option maxHeartbeats 8000000 in
/-- The reference's arg-min of a row is its first least place. -/
theorem arg_first (V : Valuation τ sig (Elt Ideal)) (r : Fin 25088) :
    ∃ j : Fin 1024, (after (seg 95 5) V (Proc.devRef .tc main_v82) : S25088.Idx → BitVec 32) (ix1 r) = BitVec.ofNat 32 j ∧
      FirstMin (fun j => (V (Proc.devRef .tc main_v81) : S25088x1024.Idx → EReal) (ix2 r j)) j := by
  have h : (after (seg 95 5) V (Proc.devRef .tc main_v82) : S25088.Idx → BitVec 32) (ix1 r)
      = (Host.argReduce reducer_argmin_f32_i32 (V (Proc.devRef .tc main_v81) : S25088x1024.Idx → EReal) (iotaInDim S25088x1024 32 1)
        (constant (F := Ideal) S_ FTy.f32 2139095040#32) (constantI S_ 32 0#32) reducesTo_S25088x1024_S25088_d1 h_S_ (ix1 r)).2 := by
    unfold seg line
    simp only [List.drop_succ_cons, List.take_succ_cons, List.drop_zero, List.take_zero]
    after_reads_at
  rw [h]
  exact argmin_first _ r

set_option maxRecDepth 16384 in
set_option maxHeartbeats 8000000 in
/-- The reference's take at a place whose index is a codeword's: that codeword. -/
theorem take_at (V : Valuation τ sig (Elt Ideal)) (n : Fin 8) (y x : Fin 56) (c : Fin 64) (r : Fin 25088) (hr : r.val = n * 3136 + y * 56 + x)
    (j : Fin 1024) (hj : (V (Proc.devRef .tc main_v82) : S25088.Idx → BitVec 32) (ix1 r) = BitVec.ofNat 32 j) :
    (after (seg 100 24) V (Proc.devRef .tc main_v84) : S8x56x56x64.Idx → EReal) (ix4 n y x c)
      = at2 (V (Proc.devRef .tc main_arg7)) j c := by
  have er : (⟨n * 3136 + y * 56 + x, by omega⟩ : Fin 25088) = r := Fin.ext hr.symm
  unfold seg line
  simp only [List.drop_succ_cons, List.take_succ_cons, List.drop_zero, List.take_zero]
  after_reads_at
  have lo : IntOp.cmpi .slt (BitVec.ofNat 32 j.val) 0#32 = 0#1 := by
    have : ¬ ((j.val : Int) < 0) := by omega
    simp only [IntOp.cmpi, BitVec.slt_eq_decide, toInt_small, BitVec.toInt_zero, this]
    rfl
  rw [er]
  refine (congrArg (fun t => Scalar.select _ t _) (Routing.gather_row gather_S1024x64_S25088x1_S25088x64_1_0_n_n_0_1_164 rfl rfl rfl rfl rfl
    _ _ r c j ?_ (by norm_num))).trans ?_
  · show broadcastInDim _ _ _ _ (ix2 r 0) = _
    pointwise
    rw [hj, lo]
    rfl
  rw [hj, lo]
  have ge : IntOp.cmpi .sge (Scalar.select 0#1 (IntOp.addi (BitVec.ofNat 32 j.val) 1024#32) (BitVec.ofNat 32 j.val)) 0#32 = 1#1 := by
    show IntOp.cmpi .sge (BitVec.ofNat 32 j.val) 0#32 = 1#1
    simp only [IntOp.cmpi, BitVec.sle_eq_decide, toInt_small]
    simp
  have le : IntOp.cmpi .sle (Scalar.select 0#1 (IntOp.addi (BitVec.ofNat 32 j.val) 1024#32) (BitVec.ofNat 32 j.val)) 1023#32 = 1#1 := by
    show IntOp.cmpi .sle (BitVec.ofNat 32 j.val) 1023#32 = 1#1
    have e : (1023#32 : BitVec 32).toInt = 1023 := by decide
    have : (j.val : Int) ≤ 1023 := by have := j.2; omega
    simp only [IntOp.cmpi, BitVec.sle_eq_decide, toInt_small, e, this]
    rfl
  rw [ge, le]
  simp only [at2, ofNat_val]
  rfl

end Cert.RefRun

end
-- ==== Proof.RefDec.lean ====
/- The reference's decoder, each layer as a convolution of the padded image before it. -/
module

public import proofs.«01_k».proof.Proof.Conv
public import proofs.«01_k».proof.Proof.RefEnc

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo Cert.Vq

set_option maxRecDepth 16384 in
set_option maxHeartbeats 4000000 in
/-- The quantised picture, by way of the encoder's, in a frame of zeros. -/
theorem pad5 (V : Valuation τ sig (Elt Ideal)) (n : Fin 8) (y x : Fin 58) (c : Fin 64) :
    (after (seg 124 7) V (Proc.devRef .tc main_v88) : S8x58x58x64.Idx → EReal) (ix4 n y x c) = padN 1 56 56 (fun i j k => (img (V (Proc.devRef .tc main_v66)) n) i j k + ((img (V (Proc.devRef .tc main_v84)) n) i j k - (img (V (Proc.devRef .tc main_v66)) n) i j k)) y x c := by
  unfold seg line
  simp only [List.drop_succ_cons, List.take_succ_cons, List.drop_zero, List.take_zero]
  after_reads_at
  exact dite_two_eq sitofp_zero (by constructor <;> intro h <;> omega) fun h r => by simp only [img, mk_ofNat]

set_option maxRecDepth 16384 in
set_option maxHeartbeats 8000000 in
/-- The decoder's first layer. -/
theorem conv5 (V : Valuation τ sig (Elt Ideal)) (n : Fin 8) (y x : Fin 56) (o : Fin 64) :
    (after (seg 131 21) V (Proc.devRef .tc main_v107) : S8x56x56x64.Idx → EReal) (ix4 n y x o) =
      max (conv 3 1 (img (V (Proc.devRef .tc main_v88)) n) (at4 (V (Proc.devRef .tc main_arg8))) y x o + (V (Proc.devRef .tc main_arg9) : S64.Idx → EReal) (ix1 o)) 0 := by
  unfold seg line
  simp only [List.drop_succ_cons, List.take_succ_cons, List.drop_zero, List.take_zero]
  simp (disch := decide) only [readAfter, readUpto, nullary_result', unary_result', binary_result', join4, join3]
  try simp -implicitDefEqProofs only [StableHlo.TRef.toBuf, StableHlo.TRef.ofBuf, cast_cast, cast_eq]
  clean_types
  pointwise
  rw [dot_patch _ rfl rfl rfl rfl rfl rfl]
  dsimp only [app4, app3]
  pointwise
  refine congrArg (fun t => max (t + _) 0) ?_
  refine Finset.sum_congr rfl fun u _ => Finset.sum_congr rfl fun v _ => Finset.sum_congr rfl fun c _ => ?_
  refine congrArg₂ (· * ·) ?_ (by simp only [at4, ofNat_val])
  fin_cases u <;> fin_cases v <;> simp [img, mk_ofNat, Nat.add_comm]

set_option maxRecDepth 16384 in
set_option maxHeartbeats 4000000 in
/-- Its output, spread out with zeros between neighbours. -/
theorem pad6 (V : Valuation τ sig (Elt Ideal)) (n : Fin 8) (y x : Fin 115) (c : Fin 64) :
    (after (seg 152 5) V (Proc.devRef .tc main_v109) : S8x115x115x64.Idx → EReal) (ix4 n y x c) = spread 56 (img (V (Proc.devRef .tc main_v107)) n) y x c := by
  unfold seg line
  simp only [List.drop_succ_cons, List.take_succ_cons, List.drop_zero, List.take_zero]
  after_reads_at
  exact dite_two_eq sitofp_zero (by constructor <;> intro h <;> omega) fun h r => by simp only [img, mk_ofNat]

set_option maxRecDepth 16384 in
set_option maxHeartbeats 8000000 in
/-- The decoder's second layer. -/
theorem conv6 (V : Valuation τ sig (Elt Ideal)) (n : Fin 8) (y x : Fin 112) (o : Fin 32) :
    (after (seg 157 25) V (Proc.devRef .tc main_v132) : S8x112x112x32.Idx → EReal) (ix4 n y x o) =
      max (conv 4 1 (img (V (Proc.devRef .tc main_v109)) n) (at4 (V (Proc.devRef .tc main_arg10))) y x o + (V (Proc.devRef .tc main_arg11) : S32.Idx → EReal) (ix1 o)) 0 := by
  unfold seg line
  simp only [List.drop_succ_cons, List.take_succ_cons, List.drop_zero, List.take_zero]
  simp (disch := decide) only [readAfter, readUpto, nullary_result', unary_result', binary_result', join4, join3]
  try simp -implicitDefEqProofs only [StableHlo.TRef.toBuf, StableHlo.TRef.ofBuf, cast_cast, cast_eq]
  clean_types
  pointwise
  rw [dot_patch _ rfl rfl rfl rfl rfl rfl]
  dsimp only [app4, app3]
  pointwise
  refine congrArg (fun t => max (t + _) 0) ?_
  refine Finset.sum_congr rfl fun u _ => Finset.sum_congr rfl fun v _ => Finset.sum_congr rfl fun c _ => ?_
  refine congrArg₂ (· * ·) ?_ (by simp only [at4, ofNat_val])
  fin_cases u <;> fin_cases v <;> simp [img, mk_ofNat, Nat.add_comm]

set_option maxRecDepth 16384 in
set_option maxHeartbeats 4000000 in
/-- Its output, spread out with zeros between neighbours. -/
theorem pad7 (V : Valuation τ sig (Elt Ideal)) (n : Fin 8) (y x : Fin 227) (c : Fin 32) :
    (after (seg 182 5) V (Proc.devRef .tc main_v134) : S8x227x227x32.Idx → EReal) (ix4 n y x c) = spread 112 (img (V (Proc.devRef .tc main_v132)) n) y x c := by
  unfold seg line
  simp only [List.drop_succ_cons, List.take_succ_cons, List.drop_zero, List.take_zero]
  after_reads_at
  exact dite_two_eq sitofp_zero (by constructor <;> intro h <;> omega) fun h r => by simp only [img, mk_ofNat]

set_option maxRecDepth 16384 in
set_option maxHeartbeats 8000000 in
/-- The decoder's last layer. -/
theorem conv7 (V : Valuation τ sig (Elt Ideal)) (n : Fin 8) (y x : Fin 224) (o : Fin 3) :
    (after (seg 187 22) V (Proc.devRef .tc main_v156) : S8x224x224x3.Idx → EReal) (ix4 n y x o) =
      conv 4 1 (img (V (Proc.devRef .tc main_v134)) n) (at4 (V (Proc.devRef .tc main_arg12))) y x o + (V (Proc.devRef .tc main_arg13) : S3.Idx → EReal) (ix1 o) := by
  unfold seg line
  simp only [List.drop_succ_cons, List.take_succ_cons, List.drop_zero, List.take_zero]
  simp (disch := decide) only [readAfter, readUpto, nullary_result', unary_result', binary_result', join4, join3]
  try simp -implicitDefEqProofs only [StableHlo.TRef.toBuf, StableHlo.TRef.ofBuf, cast_cast, cast_eq]
  clean_types
  pointwise
  rw [dot_patch _ rfl rfl rfl rfl rfl rfl]
  dsimp only [app4, app3]
  pointwise
  refine congrArg (fun t => t + _) ?_
  refine Finset.sum_congr rfl fun u _ => Finset.sum_congr rfl fun v _ => Finset.sum_congr rfl fun c _ => ?_
  refine congrArg₂ (· * ·) ?_ (by simp only [at4, ofNat_val])
  fin_cases u <;> fin_cases v <;> simp [img, mk_ofNat, Nat.add_comm]

end Cert.RefRun

end
-- ==== Proof.Model.lean ====
/- The layers of both programs as functions of images: the encoder, the quantisation and the decoder. Each layer depends
   on its image only inside the frame, and keeps real values real. -/
module

public import proofs.«01_k».proof.Proof.Vq

@[expose] public section

noncomputable section

namespace Cert.Vq

open Idealize.ShloMosaic Finset

/-- The channel of a place in a row whose last three places are the channels of a picture. -/
def channel (q : ℕ) : Fin 3 := ⟨q % 3, Nat.mod_lt _ (Nat.zero_lt_succ 2)⟩

/-- The first layer of the encoder, halving the picture. -/
def layer1 (f : Img 3) (w : Taps 3 32) (b : Fin 32 → EReal) : Img 32 := fun y x o => max (conv 4 2 (padN 1 224 224 f) w y x o + b o) 0

/-- The second layer of the encoder, halving the image again. -/
def layer2 (f : Img 32) (w : Taps 32 64) (b : Fin 64 → EReal) : Img 64 := fun y x o =>
  max (conv 4 2 (padN 1 112 112 f) w y x o + b o) 0

/-- The last layer of the encoder, without a threshold. -/
def layer3 (f : Img 64) (w : Taps 64 64) (b : Fin 64 → EReal) : Img 64 := fun y x o => conv 3 1 (padN 1 56 56 f) w y x o + b o

/-- The place of the first nearest codeword. -/
def nearest (h : Fin 64 → EReal) (cb : ℕ → Fin 64 → EReal) : Fin 1024 := Classical.epsilon (FirstMin (dist h cb))

/-- The quantisation: at every place the first nearest codeword. -/
def chosen (h : Img 64) (cb : ℕ → Fin 64 → EReal) : Img 64 := fun y x o => cb (nearest (h y x) cb) o

/-- The first layer of the decoder. -/
def layer5 (f : Img 64) (w : Taps 64 64) (b : Fin 64 → EReal) : Img 64 := fun y x o =>
  max (conv 3 1 (padN 1 56 56 f) w y x o + b o) 0

/-- The second layer of the decoder, doubling the image. -/
def layer6 (f : Img 64) (w : Taps 64 32) (b : Fin 32 → EReal) : Img 32 := fun y x o => max (conv 4 1 (spread 56 f) w y x o + b o) 0

/-- The last layer of the decoder, doubling the image again, without a threshold. -/
def layer7 (f : Img 32) (w : Taps 32 3) (b : Fin 3 → EReal) : Img 3 := fun y x o => conv 4 1 (spread 112 f) w y x o + b o

/-- A first least place is the nearest codeword. -/
theorem nearest_eq {h : Fin 64 → EReal} {cb : ℕ → Fin 64 → EReal} {j : Fin 1024} (hj : FirstMin (dist h cb) j) : nearest h cb = j :=
  FirstMin.unique (Classical.epsilon_spec ⟨j, hj⟩) hj

/-- Two images that agree inside the frame agree when padded. -/
theorem padN_congr {C p H W : ℕ} {f g : Img C} (h : ∀ (y : Fin H) (x : Fin W) c, f y x c = g y x c) : padN p H W f = padN p H W g := by
  funext y x c
  unfold padN
  split_ifs with a
  · exact h ⟨y - p, by omega⟩ ⟨x - p, by omega⟩ c
  · rfl

/-- Two images that agree inside the frame agree when spread out. -/
theorem spread_congr {C H : ℕ} {f g : Img C} (h : ∀ (y x : Fin H) c, f y x c = g y x c) : spread H f = spread H g := by
  funext y x c
  unfold spread
  split_ifs with a
  · exact h ⟨(y - 2) / 2, by omega⟩ ⟨(x - 2) / 2, by omega⟩ c
  · rfl

/-- A convolution asks its image only for the places of its windows. -/
theorem conv_congr {C O k s a b : ℕ} {f g : Img C} (w : Taps C O) (h : ∀ (i : Fin a) (j : Fin b) c, f i j c = g i j c) {y x : ℕ}
    (hy : s * y + k ≤ a) (hx : s * x + k ≤ b) (o : Fin O) : conv k s f w y x o = conv k s g w y x o := by
  unfold conv tap
  refine Finset.sum_congr rfl fun u _ => Finset.sum_congr rfl fun v _ => Finset.sum_congr rfl fun c _ => ?_
  rw [h ⟨s * y + u, by omega⟩ ⟨s * x + v, by omega⟩ c]

/-- A picture read inside its frame is the array itself. -/
theorem img_at {n a b c : ℕ} [NeZero a] [NeZero b] (A : (⟨4, ![n, a, b, c]⟩ : Shape).Idx → EReal) (t : Fin n) (i : Fin a) (j : Fin b)
    (k : Fin c) : img A t i j k = A (ix4 t i j k) := by
  unfold img
  rw [ofNat_val, ofNat_val]

/-- A picture known at every place of its frame. -/
theorem img_of {n a b c : ℕ} [NeZero a] [NeZero b] {A : (⟨4, ![n, a, b, c]⟩ : Shape).Idx → EReal} {t : Fin n} {g : Img c}
    (h : ∀ (i : Fin a) (j : Fin b) (k : Fin c), A (ix4 t i j k) = g i j k) (i : Fin a) (j : Fin b) (k : Fin c) : img A t i j k = g i j k :=
  (img_at A t i j k).trans (h i j k)

/-- The code `h` of a picture: the three layers of the encoder. -/
def code (X : Img 3) (w1 : Taps 3 32) (b1 : Fin 32 → EReal) (w2 : Taps 32 64) (b2 : Fin 64 → EReal) (w3 : Taps 64 64) (b3 : Fin 64 → EReal) :
    Img 64 := layer3 (layer2 (layer1 X w1 b1) w2 b2) w3 b3

/-- The picture of a quantised code: the three layers of the decoder. -/
def picture (q : Img 64) (w5 : Taps 64 64) (b5 : Fin 64 → EReal) (w6 : Taps 64 32) (b6 : Fin 32 → EReal) (w7 : Taps 32 3) (b7 : Fin 3 → EReal) :
    Img 3 := layer7 (layer6 (layer5 q w5 b5) w6 b6) w7 b7

/-- A value that is a real number. -/
def IsReal (e : EReal) : Prop := ∃ r : ℝ, e = (r : EReal)

/-- Zero is real. -/
theorem IsReal.zero : IsReal 0 := ⟨0, rfl⟩

/-- A sum of two reals is real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A product of two reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The larger of two reals is real. -/
theorem IsReal.max {a b : EReal} (ha : IsReal a) (hb : IsReal b) : IsReal (max a b) := by
  rcases max_choice a b with e | e <;> rw [e]
  exacts [ha, hb]

/-- A finite sum of reals is a real. -/
theorem IsReal.sum {ι : Type*} (s : Finset ι) {f : ι → EReal} (h : ∀ i, IsReal (f i)) : IsReal (∑ i ∈ s, f i) := by
  classical
  induction s using Finset.induction_on with
  | empty => exact IsReal.zero
  | insert a s ha ih =>
    rw [Finset.sum_insert ha]
    exact (h a).add ih

/-- A real image in a frame of zeros is real. -/
theorem real_padN {C p H W : ℕ} {f : Img C} (h : ∀ y x c, IsReal (f y x c)) (y x : ℕ) (c : Fin C) : IsReal (padN p H W f y x c) := by
  unfold padN
  split_ifs
  exacts [h _ _ _, IsReal.zero]

/-- A convolution of reals is real. -/
theorem real_conv {C O k s : ℕ} {f : Img C} {w : Taps C O} (h : ∀ y x c, IsReal (f y x c)) (hw : ∀ u v c o, IsReal (w u v c o)) (y x : ℕ)
    (o : Fin O) : IsReal (conv k s f w y x o) :=
  IsReal.sum _ fun _ => IsReal.sum _ fun _ => IsReal.sum _ fun _ => (h _ _ _).mul (hw _ _ _ _)

/-- The code of a real picture under real parameters is real. -/
theorem real_code {X : Img 3} {w1 : Taps 3 32} {b1 : Fin 32 → EReal} {w2 : Taps 32 64} {b2 : Fin 64 → EReal} {w3 : Taps 64 64}
    {b3 : Fin 64 → EReal} (hX : ∀ y x c, IsReal (X y x c)) (h1 : ∀ u v c o, IsReal (w1 u v c o)) (k1 : ∀ o, IsReal (b1 o))
    (h2 : ∀ u v c o, IsReal (w2 u v c o)) (k2 : ∀ o, IsReal (b2 o)) (h3 : ∀ u v c o, IsReal (w3 u v c o)) (k3 : ∀ o, IsReal (b3 o)) (y x : ℕ)
    (c : Fin 64) : IsReal (code X w1 b1 w2 b2 w3 b3 y x c) :=
  (real_conv (real_padN fun y x c => ((real_conv (real_padN fun y x c => ((real_conv (real_padN hX) h1 y x c).add (k1 c)).max .zero)
    h2 y x c).add (k2 c)).max .zero) h3 y x c).add (k3 c)

/-- What is added to a real and taken away again leaves the other summand: the straight-through estimate is the codeword. -/
theorem straight_through {h : EReal} (hr : IsReal h) (q : EReal) : h + (q - h) = q := by
  obtain ⟨r, rfl⟩ := hr
  rw [add_comm, EReal.sub_add_cancel]

end Cert.Vq

end
-- ==== Proof.RefAll.lean ====
/- The reference as a whole: its two results as the layers of its arguments. -/
module

public import proofs.«01_k».proof.Proof.RefEnc
public import proofs.«01_k».proof.Proof.RefVq
public import proofs.«01_k».proof.Proof.RefDec
public import proofs.«01_k».proof.Proof.Model

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo Cert.Vq

variable (V : Valuation τ sig (Elt Ideal))

/-- The buffers after the first `k` operations. -/
def upTo (k : ℕ) : Valuation τ sig (Elt Ideal) := after (line.1.take k) V

/-- Some operations more. -/
theorem after_seg (a b : ℕ) : after (seg a b) (upTo V a) = upTo V (a + b) := by
  unfold seg upTo
  rw [← after_append, ← List.take_add]

set_option maxRecDepth 16384 in
set_option maxHeartbeats 4000000 in
/-- No operation writes an argument. -/
theorem args_free : (line (F := Ideal)).1.Forall fun op => ∀ a ∈ argRefs, Proc.devRef (τ := τ) .tc a ∉ op.writes := by
  unfold line
  repeat' (first
    | refine And.intro ?_ ?_
    | (intro a ha hb
       have e := Proc.devRef_injective _ (Finset.mem_singleton.mp hb)
       subst e
       revert ha
       decide))

/-- The arguments after the first `k` operations. -/
theorem upTo_arg (k : ℕ) (a : Ref sig .tc) (ha : a ∈ argRefs) : upTo V k (Proc.devRef .tc a) = V (Proc.devRef .tc a) :=
  after_of_forall_not_mem _ V fun op hop => List.forall_iff_forall_mem.mp args_free op (List.mem_of_mem_take hop) a ha

set_option maxRecDepth 16384 in
set_option maxHeartbeats 4000000 in
/-- The code is not written again before the decoder. -/
theorem code_kept : upTo V 124 (Proc.devRef .tc main_v66) = upTo V 77 (Proc.devRef .tc main_v66) := by
  rw [← after_seg V 77 47]
  have h : (seg 77 47).Forall fun op => ∀ a ∈ [main_v66], Proc.devRef (τ := τ) .tc a ∉ op.writes := by
    unfold seg line
    simp only [List.drop_succ_cons, List.take_succ_cons, List.drop_zero, List.take_zero]
    repeat' (first
      | refine And.intro ?_ ?_
      | (intro a ha hb
         have e := Proc.devRef_injective _ (Finset.mem_singleton.mp hb)
         subst e
         revert ha
         decide))
  exact after_of_forall_not_mem _ _ fun op hop => List.forall_iff_forall_mem.mp h op hop _ (List.mem_singleton.mpr rfl)

set_option maxRecDepth 16384 in
set_option maxHeartbeats 4000000 in
/-- The quantised code is not written again. -/
theorem chosen_kept : upTo V 209 (Proc.devRef .tc main_v84) = upTo V 124 (Proc.devRef .tc main_v84) := by
  rw [← after_seg V 124 85]
  have h : (seg 124 85).Forall fun op => ∀ a ∈ [main_v84], Proc.devRef (τ := τ) .tc a ∉ op.writes := by
    unfold seg line
    simp only [List.drop_succ_cons, List.take_succ_cons, List.drop_zero, List.take_zero]
    repeat' (first
      | refine And.intro ?_ ?_
      | (intro a ha hb
         have e := Proc.devRef_injective _ (Finset.mem_singleton.mp hb)
         subst e
         revert ha
         decide))
  exact after_of_forall_not_mem _ _ fun op hop => List.forall_iff_forall_mem.mp h op hop _ (List.mem_singleton.mpr rfl)

/-- The whole line. -/
theorem upTo_all : upTo V 209 = after line.1 V := by
  unfold upTo
  rw [List.take_of_length_le]
  exact le_of_eq rfl

/-- The code of picture `n`, from the arguments. -/
def codeOf (n : Fin 8) : Img 64 :=
  code (img (V (Proc.devRef .tc main_arg0)) n) (at4 (V (Proc.devRef .tc main_arg1))) (at1 (V (Proc.devRef .tc main_arg2)))
    (at4 (V (Proc.devRef .tc main_arg3))) (at1 (V (Proc.devRef .tc main_arg4))) (at4 (V (Proc.devRef .tc main_arg5)))
    (at1 (V (Proc.devRef .tc main_arg6)))

/-- The picture a quantised code stands for, under the arguments' decoder. -/
def pictureOf (q : Img 64) : Img 3 :=
  picture q (at4 (V (Proc.devRef .tc main_arg8))) (at1 (V (Proc.devRef .tc main_arg9))) (at4 (V (Proc.devRef .tc main_arg10)))
    (at1 (V (Proc.devRef .tc main_arg11))) (at4 (V (Proc.devRef .tc main_arg12))) (at1 (V (Proc.devRef .tc main_arg13)))

/-- The picture in its frame. -/
theorem step1 (n : Fin 8) (y x : Fin 226) (c : Fin 3) : (upTo V 3 (Proc.devRef .tc main_v0) : S8x226x226x3.Idx → EReal) (ix4 n y x c)
    = padN 1 224 224 (img (V (Proc.devRef .tc main_arg0)) n) y x c := by
  rw [← after_seg V 0 3]
  exact (pad1 (upTo V 0) n y x c)

/-- The first layer. -/
theorem step2 (n : Fin 8) (y x : Fin 112) (o : Fin 32) : (upTo V 28 (Proc.devRef .tc main_v23) : S8x112x112x32.Idx → EReal) (ix4 n y x o)
    = layer1 (img (V (Proc.devRef .tc main_arg0)) n) (at4 (V (Proc.devRef .tc main_arg1))) (at1 (V (Proc.devRef .tc main_arg2))) y x o := by
  rw [← after_seg V 3 25]
  refine (conv1 (upTo V 3) n y x o).trans ?_
  rw [upTo_arg V 3 main_arg1 (by decide), upTo_arg V 3 main_arg2 (by decide)]
  unfold layer1
  rw [conv_congr _ (img_of (step1 V n)) (by omega) (by omega)]
  rfl

/-- The first layer in its frame. -/
theorem step3 (n : Fin 8) (y x : Fin 114) (c : Fin 32) : (upTo V 31 (Proc.devRef .tc main_v24) : S8x114x114x32.Idx → EReal) (ix4 n y x c)
    = padN 1 112 112 (layer1 (img (V (Proc.devRef .tc main_arg0)) n) (at4 (V (Proc.devRef .tc main_arg1))) (at1 (V (Proc.devRef .tc main_arg2)))) y x c := by
  rw [← after_seg V 28 3]
  refine (pad2 (upTo V 28) n y x c).trans ?_
  rw [padN_congr (img_of (step2 V n))]

/-- The second layer. -/
theorem step4 (n : Fin 8) (y x : Fin 56) (o : Fin 64) : (upTo V 56 (Proc.devRef .tc main_v47) : S8x56x56x64.Idx → EReal) (ix4 n y x o)
    = layer2 (layer1 (img (V (Proc.devRef .tc main_arg0)) n) (at4 (V (Proc.devRef .tc main_arg1))) (at1 (V (Proc.devRef .tc main_arg2))))
      (at4 (V (Proc.devRef .tc main_arg3))) (at1 (V (Proc.devRef .tc main_arg4))) y x o := by
  rw [← after_seg V 31 25]
  refine (conv2 (upTo V 31) n y x o).trans ?_
  rw [upTo_arg V 31 main_arg3 (by decide), upTo_arg V 31 main_arg4 (by decide)]
  unfold layer2
  rw [conv_congr _ (img_of (step3 V n)) (by omega) (by omega)]
  rfl

/-- The second layer in its frame. -/
theorem step5 (n : Fin 8) (y x : Fin 58) (c : Fin 64) : (upTo V 59 (Proc.devRef .tc main_v48) : S8x58x58x64.Idx → EReal) (ix4 n y x c)
    = padN 1 56 56 (layer2 (layer1 (img (V (Proc.devRef .tc main_arg0)) n) (at4 (V (Proc.devRef .tc main_arg1))) (at1 (V (Proc.devRef .tc main_arg2))))
      (at4 (V (Proc.devRef .tc main_arg3))) (at1 (V (Proc.devRef .tc main_arg4)))) y x c := by
  rw [← after_seg V 56 3]
  refine (pad3 (upTo V 56) n y x c).trans ?_
  rw [padN_congr (img_of (step4 V n))]

/-- The code. -/
theorem step6 (n : Fin 8) (y x : Fin 56) (o : Fin 64) : (upTo V 77 (Proc.devRef .tc main_v66) : S8x56x56x64.Idx → EReal) (ix4 n y x o)
    = codeOf V n y x o := by
  rw [← after_seg V 59 18]
  refine (conv3 (upTo V 59) n y x o).trans ?_
  rw [upTo_arg V 59 main_arg5 (by decide), upTo_arg V 59 main_arg6 (by decide)]
  unfold codeOf code layer3
  rw [conv_congr _ (img_of (step5 V n)) (by omega) (by omega)]
  rfl

/-- The quantised code. -/
theorem step7 (n : Fin 8) (y x : Fin 56) (o : Fin 64) : (upTo V 124 (Proc.devRef .tc main_v84) : S8x56x56x64.Idx → EReal) (ix4 n y x o)
    = chosen (codeOf V n) (at2 (V (Proc.devRef .tc main_arg7))) y x o := by
  obtain ⟨r, hr⟩ : ∃ r : Fin 25088, r.val = n * 3136 + y * 56 + x := ⟨⟨n * 3136 + y * 56 + x, by omega⟩, rfl⟩
  obtain ⟨j, hj, hm⟩ := arg_first (upTo V 95) r
  rw [after_seg] at hj
  have hd : (fun j => (upTo V 95 (Proc.devRef .tc main_v81) : S25088x1024.Idx → EReal) (ix2 r j))
      = dist (codeOf V n y x) (at2 (V (Proc.devRef .tc main_arg7))) := by
    funext j
    rw [← after_seg V 77 18]
    refine (dist_at (upTo V 77) n y x r hr j).trans ?_
    rw [upTo_arg V 77 main_arg7 (by decide)]
    refine congrArg (fun h => dist h _ j) (funext fun c => img_of (step6 V n) y x c)
  rw [hd] at hm
  rw [← after_seg V 100 24]
  refine (take_at (upTo V 100) n y x o r hr j hj).trans ?_
  rw [upTo_arg V 100 main_arg7 (by decide)]
  unfold chosen
  rw [nearest_eq hm]

/-- The straight-through estimate in its frame. -/
theorem step8 (n : Fin 8) (y x : Fin 58) (c : Fin 64) : (upTo V 131 (Proc.devRef .tc main_v88) : S8x58x58x64.Idx → EReal) (ix4 n y x c)
    = padN 1 56 56 (fun i j k => codeOf V n i j k + (chosen (codeOf V n) (at2 (V (Proc.devRef .tc main_arg7))) i j k - codeOf V n i j k)) y x c := by
  rw [← after_seg V 124 7]
  refine (pad5 (upTo V 124) n y x c).trans ?_
  rw [code_kept]
  rw [padN_congr fun i j k => ?_]
  simp only [img_of (step6 V n) i j k, img_of (step7 V n) i j k]

/-- What the decoder of the reference is given: the code and what the codeword adds to it. -/
def estimate (n : Fin 8) : Img 64 := fun i j k =>
  codeOf V n i j k + (chosen (codeOf V n) (at2 (V (Proc.devRef .tc main_arg7))) i j k - codeOf V n i j k)

/-- The decoder's first layer. -/
theorem step9 (n : Fin 8) (y x : Fin 56) (o : Fin 64) : (upTo V 152 (Proc.devRef .tc main_v107) : S8x56x56x64.Idx → EReal) (ix4 n y x o)
    = layer5 (estimate V n) (at4 (V (Proc.devRef .tc main_arg8))) (at1 (V (Proc.devRef .tc main_arg9))) y x o := by
  rw [← after_seg V 131 21]
  refine (conv5 (upTo V 131) n y x o).trans ?_
  rw [upTo_arg V 131 main_arg8 (by decide), upTo_arg V 131 main_arg9 (by decide)]
  unfold layer5
  rw [conv_congr _ (img_of (step8 V n)) (by omega) (by omega)]
  rfl

/-- The same spread out. -/
theorem step10 (n : Fin 8) (y x : Fin 115) (c : Fin 64) : (upTo V 157 (Proc.devRef .tc main_v109) : S8x115x115x64.Idx → EReal) (ix4 n y x c)
    = spread 56 (layer5 (estimate V n) (at4 (V (Proc.devRef .tc main_arg8))) (at1 (V (Proc.devRef .tc main_arg9)))) y x c := by
  rw [← after_seg V 152 5]
  refine (pad6 (upTo V 152) n y x c).trans ?_
  rw [spread_congr (img_of (step9 V n))]

/-- The decoder's second layer. -/
theorem step11 (n : Fin 8) (y x : Fin 112) (o : Fin 32) : (upTo V 182 (Proc.devRef .tc main_v132) : S8x112x112x32.Idx → EReal) (ix4 n y x o)
    = layer6 (layer5 (estimate V n) (at4 (V (Proc.devRef .tc main_arg8))) (at1 (V (Proc.devRef .tc main_arg9))))
      (at4 (V (Proc.devRef .tc main_arg10))) (at1 (V (Proc.devRef .tc main_arg11))) y x o := by
  rw [← after_seg V 157 25]
  refine (conv6 (upTo V 157) n y x o).trans ?_
  rw [upTo_arg V 157 main_arg10 (by decide), upTo_arg V 157 main_arg11 (by decide)]
  unfold layer6
  rw [conv_congr _ (img_of (step10 V n)) (by omega) (by omega)]
  rfl

/-- The same spread out. -/
theorem step12 (n : Fin 8) (y x : Fin 227) (c : Fin 32) : (upTo V 187 (Proc.devRef .tc main_v134) : S8x227x227x32.Idx → EReal) (ix4 n y x c)
    = spread 112 (layer6 (layer5 (estimate V n) (at4 (V (Proc.devRef .tc main_arg8))) (at1 (V (Proc.devRef .tc main_arg9))))
      (at4 (V (Proc.devRef .tc main_arg10))) (at1 (V (Proc.devRef .tc main_arg11)))) y x c := by
  rw [← after_seg V 182 5]
  refine (pad7 (upTo V 182) n y x c).trans ?_
  rw [spread_congr (img_of (step11 V n))]

/-- The first result of the reference: the quantised code. -/
theorem reference_first (n : Fin 8) (y x : Fin 56) (o : Fin 64) :
    (after line.1 V (Proc.devRef .tc main_v84) : S8x56x56x64.Idx → EReal) (ix4 n y x o)
      = chosen (codeOf V n) (at2 (V (Proc.devRef .tc main_arg7))) y x o := by
  rw [← upTo_all, chosen_kept]
  exact step7 V n y x o

/-- The second result of the reference: the picture of the straight-through estimate. -/
theorem reference_last (n : Fin 8) (y x : Fin 224) (o : Fin 3) :
    (after line.1 V (Proc.devRef .tc main_v156) : S8x224x224x3.Idx → EReal) (ix4 n y x o) = pictureOf V (estimate V n) y x o := by
  rw [← upTo_all, ← after_seg V 187 22]
  refine (conv7 (upTo V 187) n y x o).trans ?_
  rw [upTo_arg V 187 main_arg12 (by decide), upTo_arg V 187 main_arg13 (by decide)]
  unfold pictureOf picture layer7
  rw [conv_congr _ (img_of (step12 V n)) (by omega) (by omega)]
  rfl

end Cert.RefRun

end
-- ==== Proof.Planes.lean ====
/- The kernel's first convolution: each of its four phases is a convolution of two by two taps, read inside its frame. -/
module

public import proofs.«01_k».proof.Proof.Gen.KernelIdeal.Frame
public import proofs.«01_k».proof.Proof.Spec
public import proofs.«01_k».proof.Proof.Conv
public import Idealize.ShloMosaic.Lib.Pointwise
public import Idealize.ShloMosaic.Lib.WordCmp

@[expose] public section

set_option Elab.async false

noncomputable section

namespace Cert.KernelRun

open Cert.KernelIdeal Cert.KernelIdeal.Gen Idealize.ShloMosaic Idealize.ShloMosaic.TcCoe Idealize.SL.Sem Cert.Vq

/-- The taps of a phase of the first convolution. -/
def phase (A : S2x2x2x2x48x32.Idx → EReal) (a b : Fin 2) : Taps 48 32 := fun d e q o => A (ix6 a b (Fin.ofNat 2 d) (Fin.ofNat 2 e) q o)

/-- An image read only from `p` down and from `q` on, 56 rows and columns. -/
def gate {C : ℕ} (p q : ℕ) (f : Img C) : Img C := fun y x c => if p ≤ y ∧ y < p + 56 ∧ q ≤ x ∧ x < q + 56 then f y x c else 0

/-- What a phase of the first convolution computes at every place. -/
def first (X : S1x72x72x48.Idx → EReal) (A : S2x2x2x2x48x32.Idx → EReal) (b : S32.Idx → EReal) (i j : Fin 2) : Img 32 := fun y x o =>
  max (conv 2 1 (img X 0) (phase A i j) y x o + b (ix1 o)) 0

/-- The lower bounds of the two frames, and the upper ones, as comparisons of words. -/
theorem frame_bits : ∀ (p : Fin 2) (i : Fin 64), IntOp.cmpi .sge (BitVec.ofNat 32 i) (BitVec.ofNat 32 p) = BitVec.ofBool (decide (p.val ≤ i))
    ∧ IntOp.cmpi .sle (BitVec.ofNat 32 i) (BitVec.ofNat 32 (p + 55)) = BitVec.ofBool (decide (i.val < p + 56)) := by decide

/-- The mask of a phase is its frame. -/
theorem gate_select (p q : Fin 2) (i j : Fin 64) (f : Img 32) (o : Fin 32) {v : EReal} (hv : v = f i j o) :
    Scalar.select (IntOp.andi (IntOp.andi (IntOp.andi (IntOp.cmpi .sge (BitVec.ofNat 32 i) (BitVec.ofNat 32 p))
      (IntOp.cmpi .sle (BitVec.ofNat 32 i) (BitVec.ofNat 32 (p + 55)))) (IntOp.cmpi .sge (BitVec.ofNat 32 j) (BitVec.ofNat 32 q)))
      (IntOp.cmpi .sle (BitVec.ofNat 32 j) (BitVec.ofNat 32 (q + 55)))) v 0 = gate p q f i j o := by
  rw [(frame_bits p i).1, (frame_bits p i).2, (frame_bits q j).1, (frame_bits q j).2, hv]
  unfold gate
  by_cases a : p.val ≤ i <;> by_cases b : i.val < p + 56 <;> by_cases c : q.val ≤ j <;> by_cases d : j.val < q + 56 <;>
    simp [a, b, c, d, Scalar.select, IntOp.andi]

/-- The four products of a phase, each a tap. -/
theorem first_eq (X : S1x72x72x48.Idx → EReal) (A : S2x2x2x2x48x32.Idx → EReal) (b : S32.Idx → EReal) (p q : Fin 2) (i j : Fin 64)
    (o : Fin 32) :
    max (∑ x, X (ix4 0 ⟨i.val, by omega⟩ ⟨j.val, by omega⟩ x) * A (ix6 p q 0 0 x o)
        + ∑ x, X (ix4 0 ⟨i.val, by omega⟩ ⟨1 + j.val, by omega⟩ x) * A (ix6 p q 0 1 x o)
        + ∑ x, X (ix4 0 ⟨1 + i.val, by omega⟩ ⟨j.val, by omega⟩ x) * A (ix6 p q 1 0 x o)
        + ∑ x, X (ix4 0 ⟨1 + i.val, by omega⟩ ⟨1 + j.val, by omega⟩ x) * A (ix6 p q 1 1 x o) + b (ix1 o)) 0
      = first X A b p q i j o := by
  simp only [first, conv, tap, Fin.sum_univ_two, img, phase, mk_ofNat, one_mul, Fin.val_zero, Fin.val_one, add_zero, Nat.add_comm 1, ← add_assoc]
  rfl

section
variable (x0 : Vec Ideal S1x72x72x48 .f32) (x1 : Vec Ideal S2x2x2x2x48x32 .f32) (x2 : Vec Ideal S32 .f32) (x3 : Vec Ideal S4x4x32x64 .f32) (x4 : Vec Ideal S64 .f32) (x5 : Vec Ideal S3x3x64x64 .f32) (x6 : Vec Ideal S64 .f32) (x7 : Vec Ideal S64x1024 .f32) (x8 : Vec Ideal S1024x64 .f32) (x9 : Vec Ideal S3x3x64x64 .f32) (x10 : Vec Ideal S64 .f32) (x11 : Vec Ideal S4x4x64x32 .f32) (x12 : Vec Ideal S32 .f32)

set_option maxRecDepth 16384 in
set_option maxHeartbeats 8000000 in
/-- The plane of the even rows and columns. -/
theorem plane00 (i j : Fin 64) (o : Fin 32) : (k0_pay7 (k0_pay62 x0 x1 x2 x3 x4 x5 x6 x7 x8 x9 x10 x11 x12) (k0_pay63 x0 x1 x2 x3 x4 x5 x6 x7 x8 x9 x10 x11 x12) (View.ld (Val := Elt Ideal) (e' := .f32) x2 r0_2) (k0_pay5 (View.ld (Val := Elt Ideal) (e' := .f32) x0 r0_0) (View.ld (Val := Elt Ideal) (e' := .f32) x1 r0_1)) (k0_pay6 (View.ld (Val := Elt Ideal) (e' := .f32) x0 r0_0))) (ix3 i j o) = gate 1 1 (first x0 x1 x2 0 0) i j o := by
  unfold k0_pay62 k0_pay63
  pointwise [k0_pay2, k0_pay3, k0_pay5, k0_pay6, k0_pay7]
  exact gate_select 1 1 i j _ o (first_eq x0 x1 x2 0 0 i j o)

set_option maxRecDepth 16384 in
set_option maxHeartbeats 8000000 in
/-- The plane of the even rows and odd columns. -/
theorem plane01 (i j : Fin 64) (o : Fin 32) : k0_pay65 (F := Ideal) x0 x1 x2 x3 x4 x5 x6 x7 x8 x9 x10 x11 x12 (ix3 i j o) = gate 1 0 (first x0 x1 x2 0 1) i j o := by
  unfold k0_pay65 k0_pay62 k0_pay63
  pointwise [k0_pay2, k0_pay3, k0_pay8, k0_pay9, k0_pay10, k0_pay11]
  exact gate_select 1 0 i j _ o (first_eq x0 x1 x2 0 1 i j o)

set_option maxRecDepth 16384 in
set_option maxHeartbeats 8000000 in
/-- The plane of the odd rows and even columns. -/
theorem plane10 (i j : Fin 64) (o : Fin 32) : (k0_pay15 (k0_pay62 x0 x1 x2 x3 x4 x5 x6 x7 x8 x9 x10 x11 x12) (k0_pay63 x0 x1 x2 x3 x4 x5 x6 x7 x8 x9 x10 x11 x12) (View.ld (Val := Elt Ideal) (e' := .f32) x2 r0_2) (k0_pay12 (F := Ideal)) (k0_pay13 (k0_pay62 x0 x1 x2 x3 x4 x5 x6 x7 x8 x9 x10 x11 x12)) (k0_pay14 (k0_pay63 x0 x1 x2 x3 x4 x5 x6 x7 x8 x9 x10 x11 x12))) (ix3 i j o) = gate 0 1 (first x0 x1 x2 1 0) i j o := by
  unfold k0_pay62 k0_pay63
  pointwise [k0_pay2, k0_pay3, k0_pay12, k0_pay13, k0_pay14, k0_pay15]
  exact gate_select 0 1 i j _ o (first_eq x0 x1 x2 1 0 i j o)

set_option maxRecDepth 16384 in
set_option maxHeartbeats 8000000 in
/-- The plane of the odd rows and columns. -/
theorem plane11 (i j : Fin 64) (o : Fin 32) : k0_pay66 (F := Ideal) x0 x1 x2 x3 x4 x5 x6 x7 x8 x9 x10 x11 x12 (ix3 i j o) = gate 0 0 (first x0 x1 x2 1 1) i j o := by
  unfold k0_pay66 k0_pay62 k0_pay63
  pointwise [k0_pay2, k0_pay3, k0_pay16, k0_pay17, k0_pay18]
  exact gate_select 0 0 i j _ o (first_eq x0 x1 x2 1 1 i j o)

end
end Cert.KernelRun
end
-- ==== Proof.KEnc.lean ====
/- The kernel's second and third convolutions, over the planes of the first. -/
module

public import proofs.«01_k».proof.Proof.Gen.KernelIdeal.Frame
public import proofs.«01_k».proof.Proof.Planes
public import proofs.«01_k».proof.Proof.Conv
public import Idealize.ShloMosaic.Lib.Pointwise
public import Idealize.ShloMosaic.Lib.WordCmp

@[expose] public section

set_option Elab.async false

noncomputable section

namespace Cert.KernelRun

open Cert.KernelIdeal Cert.KernelIdeal.Gen Idealize.ShloMosaic Idealize.ShloMosaic.TcCoe Idealize.SL.Sem Cert.Vq

/-- A field with a frame of one all round, read column first. -/
theorem pad_eq {C : ℕ} {y x : ℕ} {f : Img C} {c : Fin C} {a : ¬ x < 1 → x - 1 < 56 → ¬ y < 1 → y - 1 < 56 → EReal}
    (v : ∀ h h' g g', a h h' g g' = f (y - 1) (x - 1) c) :
    (if h : x < 1 then 0 else if h' : x - 1 < 56 then if g : y < 1 then 0 else if g' : y - 1 < 56 then a h h' g g' else 0 else 0)
      = padN 1 56 56 f y x c := by
  unfold padN
  by_cases h : x < 1
  · rw [dif_pos h, if_neg (by omega)]
  by_cases h' : x - 1 < 56
  · by_cases g : y < 1
    · rw [dif_neg h, dif_pos h', dif_pos g, if_neg (by omega)]
    by_cases g' : y - 1 < 56
    · rw [dif_neg h, dif_pos h', dif_neg g, dif_pos g', if_pos (by omega), v]
    · rw [dif_neg h, dif_pos h', dif_neg g, dif_neg g', if_neg (by omega)]
  · rw [dif_neg h, dif_neg h', if_neg (by omega)]

/-- The sixteen taps of the second convolution, phase after phase. -/
theorem sixteen {P00 P01 P10 P11 : S64x64x32.Idx → EReal} (w : S4x4x32x64.Idx → EReal) {p : Img 32}
    (h00 : ∀ i j c, P00 (ix3 i j c) = p (2 * i) (2 * j) c) (h01 : ∀ i j c, P01 (ix3 i j c) = p (2 * i) (2 * j + 1) c)
    (h10 : ∀ i j c, P10 (ix3 i j c) = p (2 * i + 1) (2 * j) c) (h11 : ∀ i j c, P11 (ix3 i j c) = p (2 * i + 1) (2 * j + 1) c)
    {Y X y x : ℕ} (hy : Y < 56) (hx : X < 56) (ey : Y = y) (ex : X = x) (o : Fin 64) :
    ∑ c, P00 (ix3 ⟨Y, by omega⟩ ⟨X, by omega⟩ c) * w (ix4 0 0 c o)
      + ∑ c, P00 (ix3 ⟨Y, by omega⟩ ⟨1 + X, by omega⟩ c) * w (ix4 0 2 c o)
      + ∑ c, P00 (ix3 ⟨1 + Y, by omega⟩ ⟨X, by omega⟩ c) * w (ix4 2 0 c o)
      + ∑ c, P00 (ix3 ⟨1 + Y, by omega⟩ ⟨1 + X, by omega⟩ c) * w (ix4 2 2 c o)
      + ∑ c, P01 (ix3 ⟨Y, by omega⟩ ⟨X, by omega⟩ c) * w (ix4 0 1 c o)
      + ∑ c, P01 (ix3 ⟨Y, by omega⟩ ⟨1 + X, by omega⟩ c) * w (ix4 0 3 c o)
      + ∑ c, P01 (ix3 ⟨1 + Y, by omega⟩ ⟨X, by omega⟩ c) * w (ix4 2 1 c o)
      + ∑ c, P01 (ix3 ⟨1 + Y, by omega⟩ ⟨1 + X, by omega⟩ c) * w (ix4 2 3 c o)
      + ∑ c, P10 (ix3 ⟨Y, by omega⟩ ⟨X, by omega⟩ c) * w (ix4 1 0 c o)
      + ∑ c, P10 (ix3 ⟨Y, by omega⟩ ⟨1 + X, by omega⟩ c) * w (ix4 1 2 c o)
      + ∑ c, P10 (ix3 ⟨1 + Y, by omega⟩ ⟨X, by omega⟩ c) * w (ix4 3 0 c o)
      + ∑ c, P10 (ix3 ⟨1 + Y, by omega⟩ ⟨1 + X, by omega⟩ c) * w (ix4 3 2 c o)
      + ∑ c, P11 (ix3 ⟨Y, by omega⟩ ⟨X, by omega⟩ c) * w (ix4 1 1 c o)
      + ∑ c, P11 (ix3 ⟨Y, by omega⟩ ⟨1 + X, by omega⟩ c) * w (ix4 1 3 c o)
      + ∑ c, P11 (ix3 ⟨1 + Y, by omega⟩ ⟨X, by omega⟩ c) * w (ix4 3 1 c o)
      + ∑ c, P11 (ix3 ⟨1 + Y, by omega⟩ ⟨1 + X, by omega⟩ c) * w (ix4 3 3 c o)
      = conv 4 2 p (at4 w) y x o := by
  subst ey ex
  have e : conv 4 2 p (at4 w) Y X o = ∑ u : Fin 4, ∑ v : Fin 4, ∑ c, p (2 * Y + u) (2 * X + v) c * w (ix4 u v c o) := by
    simp only [conv, tap, at4, ofNat_val]
  have y2 : 2 * (1 + Y) = 2 * Y + 2 := by ring
  have x2 : 2 * (1 + X) = 2 * X + 2 := by ring
  rw [e]
  generalize ht : (fun u v : Fin 4 => ∑ c, p (2 * Y + u) (2 * X + v) c * w (ix4 u v c o)) = t
  have et : ∀ u v : Fin 4, ∑ c, p (2 * Y + u) (2 * X + v) c * w (ix4 u v c o) = t u v := fun u v => congrFun (congrFun ht u) v
  simp only [h00, h01, h10, h11, y2, x2]
  simp only [et]
  have f00 := et 0 0
  have f01 := et 0 1
  have f02 := et 0 2
  have f03 := et 0 3
  have f10 := et 1 0
  have f11 := et 1 1
  have f12 := et 1 2
  have f13 := et 1 3
  have f20 := et 2 0
  have f21 := et 2 1
  have f22 := et 2 2
  have f23 := et 2 3
  have f30 := et 3 0
  have f31 := et 3 1
  have f32 := et 3 2
  have f33 := et 3 3
  simp only [Fin.sum_univ_four]
  refine Eq.trans (b := t 0 0 + t 0 2 + t 2 0 + t 2 2 + t 0 1 + t 0 3 + t 2 1 + t 2 3 + t 1 0 + t 1 2 + t 3 0 + t 3 2 + t 1 1 + t 1 3 + t 3 1 + t 3 3) ?_ (by abel)
  rw [← f00, ← f01, ← f02, ← f03, ← f10, ← f11, ← f12, ← f13, ← f20, ← f21, ← f22, ← f23, ← f30, ← f31, ← f32, ← f33]
  rfl

/-- The nine taps of a convolution of three by three, row after row. -/
theorem nine {O : ℕ} {P : S58x58x64.Idx → EReal} (w : (⟨4, ![3, 3, 64, O]⟩ : Shape).Idx → EReal) {p : Img 64}
    (h : ∀ i j c, P (ix3 i j c) = p i j c) {Y X y x : ℕ} (hy : Y < 56) (hx : X < 56) (ey : Y = y) (ex : X = x) (o : Fin O) :
    ∑ c, P (ix3 ⟨Y, by omega⟩ ⟨X, by omega⟩ c) * w (ix4 0 0 c o)
      + ∑ c, P (ix3 ⟨Y, by omega⟩ ⟨1 + X, by omega⟩ c) * w (ix4 0 1 c o)
      + ∑ c, P (ix3 ⟨Y, by omega⟩ ⟨2 + X, by omega⟩ c) * w (ix4 0 2 c o)
      + ∑ c, P (ix3 ⟨1 + Y, by omega⟩ ⟨X, by omega⟩ c) * w (ix4 1 0 c o)
      + ∑ c, P (ix3 ⟨1 + Y, by omega⟩ ⟨1 + X, by omega⟩ c) * w (ix4 1 1 c o)
      + ∑ c, P (ix3 ⟨1 + Y, by omega⟩ ⟨2 + X, by omega⟩ c) * w (ix4 1 2 c o)
      + ∑ c, P (ix3 ⟨2 + Y, by omega⟩ ⟨X, by omega⟩ c) * w (ix4 2 0 c o)
      + ∑ c, P (ix3 ⟨2 + Y, by omega⟩ ⟨1 + X, by omega⟩ c) * w (ix4 2 1 c o)
      + ∑ c, P (ix3 ⟨2 + Y, by omega⟩ ⟨2 + X, by omega⟩ c) * w (ix4 2 2 c o)
      = conv 3 1 p (at4 w) y x o := by
  subst ey ex
  have e : conv 3 1 p (at4 w) Y X o = ∑ u : Fin 3, ∑ v : Fin 3, ∑ c, p (Y + u) (X + v) c * w (ix4 u v c o) := by
    simp only [conv, tap, at4, ofNat_val, one_mul]
  rw [e]
  simp only [Fin.sum_univ_three, h, Nat.add_comm 1, Nat.add_comm 2, ← add_assoc]
  rfl

section
variable (x0 : Vec Ideal S1x72x72x48 .f32) (x1 : Vec Ideal S2x2x2x2x48x32 .f32) (x2 : Vec Ideal S32 .f32) (x3 : Vec Ideal S4x4x32x64 .f32) (x4 : Vec Ideal S64 .f32) (x5 : Vec Ideal S3x3x64x64 .f32) (x6 : Vec Ideal S64 .f32) (x7 : Vec Ideal S64x1024 .f32) (x8 : Vec Ideal S1024x64 .f32) (x9 : Vec Ideal S3x3x64x64 .f32) (x10 : Vec Ideal S64 .f32) (x11 : Vec Ideal S4x4x64x32 .f32) (x12 : Vec Ideal S32 .f32)

set_option maxRecDepth 16384 in
set_option maxHeartbeats 8000000 in
/-- The second convolution's output, set in its frame. -/
theorem conv2 {p : Img 32} (h00 : ∀ (i j : Fin 64) (c : Fin 32), gate 1 1 (first x0 x1 x2 0 0) i j c = p (2 * i) (2 * j) c)
    (h01 : ∀ (i j : Fin 64) (c : Fin 32), gate 1 0 (first x0 x1 x2 0 1) i j c = p (2 * i) (2 * j + 1) c)
    (h10 : ∀ (i j : Fin 64) (c : Fin 32), gate 0 1 (first x0 x1 x2 1 0) i j c = p (2 * i + 1) (2 * j) c)
    (h11 : ∀ (i j : Fin 64) (c : Fin 32), gate 0 0 (first x0 x1 x2 1 1) i j c = p (2 * i + 1) (2 * j + 1) c) (y x : Fin 58) (o : Fin 64) :
    k0_pay70 (F := Ideal) x0 x1 x2 x3 x4 x5 x6 x7 x8 x9 x10 x11 x12 (ix3 y x o) = padN 1 56 56 (fun y x o => max (conv 4 2 p (at4 x3) y x o + x4 (ix1 o)) 0) y x o := by
  have q00 : ∀ (i j : Fin 64) (c : Fin 32), _ = p (2 * i) (2 * j) c := fun i j c => (plane00 x0 x1 x2 x3 x4 x5 x6 x7 x8 x9 x10 x11 x12 i j c).trans (h00 i j c)
  have q01 : ∀ (i j : Fin 64) (c : Fin 32), _ = p (2 * i) (2 * j + 1) c := fun i j c => (plane01 x0 x1 x2 x3 x4 x5 x6 x7 x8 x9 x10 x11 x12 i j c).trans (h01 i j c)
  have q10 : ∀ (i j : Fin 64) (c : Fin 32), _ = p (2 * i + 1) (2 * j) c := fun i j c => (plane10 x0 x1 x2 x3 x4 x5 x6 x7 x8 x9 x10 x11 x12 i j c).trans (h10 i j c)
  have q11 : ∀ (i j : Fin 64) (c : Fin 32), _ = p (2 * i + 1) (2 * j + 1) c := fun i j c => (plane11 x0 x1 x2 x3 x4 x5 x6 x7 x8 x9 x10 x11 x12 i j c).trans (h11 i j c)
  unfold k0_pay70 k0_pay69 k0_pay68 k0_pay67
  generalize k0_pay65 (F := Ideal) x0 x1 x2 x3 x4 x5 x6 x7 x8 x9 x10 x11 x12 = P01 at *
  generalize k0_pay66 (F := Ideal) x0 x1 x2 x3 x4 x5 x6 x7 x8 x9 x10 x11 x12 = P11 at *
  generalize (k0_pay15 (k0_pay62 x0 x1 x2 x3 x4 x5 x6 x7 x8 x9 x10 x11 x12) (k0_pay63 x0 x1 x2 x3 x4 x5 x6 x7 x8 x9 x10 x11 x12) (View.ld (Val := Elt Ideal) (e' := .f32) x2 r0_2) (k0_pay12 (F := Ideal)) (k0_pay13 (k0_pay62 x0 x1 x2 x3 x4 x5 x6 x7 x8 x9 x10 x11 x12)) (k0_pay14 (k0_pay63 x0 x1 x2 x3 x4 x5 x6 x7 x8 x9 x10 x11 x12))) = P10 at *
  generalize (k0_pay7 (k0_pay62 x0 x1 x2 x3 x4 x5 x6 x7 x8 x9 x10 x11 x12) (k0_pay63 x0 x1 x2 x3 x4 x5 x6 x7 x8 x9 x10 x11 x12) (View.ld (Val := Elt Ideal) (e' := .f32) x2 r0_2) (k0_pay5 (View.ld (Val := Elt Ideal) (e' := .f32) x0 r0_0) (View.ld (Val := Elt Ideal) (e' := .f32) x1 r0_1)) (k0_pay6 (View.ld (Val := Elt Ideal) (e' := .f32) x0 r0_0))) = P00 at *
  pointwise [k0_pay19, k0_pay20, k0_pay21, k0_pay22, k0_pay23, k0_pay24, k0_pay25]
  refine pad_eq fun h h' g g' => ?_
  refine congrArg (fun t => max (t + x4 (ix1 o)) 0) ?_
  exact sixteen x3 q00 q01 q10 q11 (by omega) (by omega) (by omega) (by omega) o

set_option maxRecDepth 16384 in
set_option maxHeartbeats 8000000 in
/-- The encoder's output, from the second convolution's in its frame. -/
theorem conv3 {p : Img 64} (h : ∀ i j c, k0_pay70 (F := Ideal) x0 x1 x2 x3 x4 x5 x6 x7 x8 x9 x10 x11 x12 (ix3 i j c) = p i j c) (r : Fin 3136) (o : Fin 64) :
    k0_pay73 (F := Ideal) x0 x1 x2 x3 x4 x5 x6 x7 x8 x9 x10 x11 x12 (ix2 r o) = conv 3 1 p (at4 x5) (r / 56) (r % 56) o + x6 (ix1 o) := by
  unfold k0_pay73 k0_pay72 k0_pay71
  pointwise [k0_pay29, k0_pay30, k0_pay26, k0_pay27, k0_pay28]
  refine congrArg (· + x6 (ix1 o)) ?_
  exact nine x5 h (by omega) (by omega) rfl rfl o
end
end Cert.KernelRun
end
-- ==== Proof.KDec.lean ====
/- The kernel's decoder: its first transposed convolution and the four phases of its second, from the quantised image. -/
module

public import proofs.«01_k».proof.Proof.Gen.KernelIdeal.Frame
public import proofs.«01_k».proof.Proof.KEnc
public import proofs.«01_k».proof.Proof.Conv
public import Idealize.ShloMosaic.Lib.Pointwise
public import Idealize.ShloMosaic.Lib.WordCmp

@[expose] public section

set_option Elab.async false

noncomputable section

namespace Cert.KernelRun

open Cert.KernelIdeal Cert.KernelIdeal.Gen Idealize.ShloMosaic Idealize.ShloMosaic.TcCoe Idealize.SL.Sem Cert.Vq

/-- The four taps which meet a pixel of the image at the phase `(a, b)`. -/
def quarter {C O : ℕ} (f : Img C) (w : Taps C O) (a b : ℕ) : Img O := fun y x o =>
  ∑ d : Fin 2, ∑ e : Fin 2, tap f (w (2 * d + a) (2 * e + b)) (y + a + d) (x + b + e) o

/-- The four products of a phase, each a tap. -/
theorem four {P : S58x58x64.Idx → EReal} (w : S4x4x64x32.Idx → EReal) {p : Img 64} (h : ∀ i j c, P (ix3 i j c) = p i j c)
    {r0 r1 c0 c1 : Fin 58} {u0 u1 v0 v1 : Fin 4} (a b y x : ℕ) (hu0 : u0.val = a) (hu1 : u1.val = 2 + a) (hv0 : v0.val = b)
    (hv1 : v1.val = 2 + b) (hr0 : r0.val = y + a) (hr1 : r1.val = y + a + 1) (hc0 : c0.val = x + b) (hc1 : c1.val = x + b + 1)
    (o : Fin 32) :
    ∑ c, P (ix3 r0 c0 c) * w (ix4 u0 v0 c o) + ∑ c, P (ix3 r0 c1 c) * w (ix4 u0 v1 c o)
      + ∑ c, P (ix3 r1 c0 c) * w (ix4 u1 v0 c o) + ∑ c, P (ix3 r1 c1 c) * w (ix4 u1 v1 c o)
      = quarter p (at4 w) a b y x o := by
  have e : ∀ (u v : Fin 4) (c : Fin 64), w (ix4 u v c o) = at4 w u v c o := fun u v c => by simp only [at4, ofNat_val]
  simp only [h, e, hu0, hu1, hv0, hv1, hr0, hr1, hc0, hc1]
  simp only [quarter, tap, Fin.sum_univ_two, Fin.val_zero, Fin.val_one, mul_zero, mul_one, zero_add, add_zero, ← add_assoc]

section
variable (x0 : Vec Ideal S1x72x72x48 .f32) (x1 : Vec Ideal S2x2x2x2x48x32 .f32) (x2 : Vec Ideal S32 .f32) (x3 : Vec Ideal S4x4x32x64 .f32) (x4 : Vec Ideal S64 .f32) (x5 : Vec Ideal S3x3x64x64 .f32) (x6 : Vec Ideal S64 .f32) (x7 : Vec Ideal S64x1024 .f32) (x8 : Vec Ideal S1024x64 .f32) (x9 : Vec Ideal S3x3x64x64 .f32) (x10 : Vec Ideal S64 .f32) (x11 : Vec Ideal S4x4x64x32 .f32) (x12 : Vec Ideal S32 .f32)

set_option maxRecDepth 16384 in
set_option maxHeartbeats 8000000 in
/-- The quantised image in its frame. -/
theorem framed {q : Img 64}
    (h : ∀ r o, k0_pay39 (F := Ideal) (k0_pay64 x0 x1 x2 x3 x4 x5 x6 x7 x8 x9 x10 x11 x12) (View.ld (Val := Elt Ideal) (e' := .f32) x8 r0_7) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12) (ix2 r o) = q (r / 56) (r % 56) o)
    (y x : Fin 58) (o : Fin 64) : k0_pay78 (F := Ideal) x0 x1 x2 x3 x4 x5 x6 x7 x8 x9 x10 x11 x12 (ix3 y x o) = padN 1 56 56 q y x o := by
  unfold k0_pay78
  pointwise [k0_pay41]
  refine pad_eq fun a a' g g' => (h _ _).trans ?_
  rw [show ((⟨(y.val - 1) * 56 + (x.val - 1), by omega⟩ : Fin 3136).val) = (y.val - 1) * 56 + (x.val - 1) from rfl,
    show ((y.val - 1) * 56 + (x.val - 1)) / 56 = y - 1 by omega, show ((y.val - 1) * 56 + (x.val - 1)) % 56 = x - 1 by omega]

set_option maxRecDepth 16384 in
set_option maxHeartbeats 8000000 in
/-- The first transposed convolution, in its frame. -/
theorem conv5 {p : Img 64} (h : ∀ i j c, k0_pay78 (F := Ideal) x0 x1 x2 x3 x4 x5 x6 x7 x8 x9 x10 x11 x12 (ix3 i j c) = p i j c) (y x : Fin 58) (o : Fin 64) :
    k0_pay80 (F := Ideal) x0 x1 x2 x3 x4 x5 x6 x7 x8 x9 x10 x11 x12 (ix3 y x o) = padN 1 56 56 (fun y x o => max (conv 3 1 p (at4 x9) y x o + x10 (ix1 o)) 0) y x o := by
  unfold k0_pay80 k0_pay79
  pointwise [k0_pay42, k0_pay43, k0_pay44, k0_pay45, k0_pay46, k0_pay47, k0_pay48]
  refine pad_eq fun a a' g g' => ?_
  refine congrArg (fun t => max (t + x10 (ix1 o)) 0) ?_
  exact nine x9 h (by omega) (by omega) (by omega) (by omega) o

set_option maxRecDepth 16384 in
set_option maxHeartbeats 8000000 in
/-- The phase of the even rows and columns of the second transposed convolution. -/
theorem phase00 {p : Img 64} (h : ∀ i j c, k0_pay80 (F := Ideal) x0 x1 x2 x3 x4 x5 x6 x7 x8 x9 x10 x11 x12 (ix3 i j c) = p i j c) (i j : Fin 1) (r : Fin 3136) (o : Fin 32) :
    (k0_pay52 (k0_pay49 (k0_pay79 x0 x1 x2 x3 x4 x5 x6 x7 x8 x9 x10 x11 x12) (View.ld (Val := Elt Ideal) (e' := .f32) x11 r0_18) (View.ld (Val := Elt Ideal) (e' := .f32) x11 r0_19) (View.ld (Val := Elt Ideal) (e' := .f32) x11 r0_20)) (k0_pay50 (View.ld (Val := Elt Ideal) (e' := .f32) x11 r0_21)) (k0_pay51 (k0_pay79 x0 x1 x2 x3 x4 x5 x6 x7 x8 x9 x10 x11 x12)) (View.ld (Val := Elt Ideal) (e' := .f32) x12 r0_2)) (ix4 i j r o)
      = max (quarter p (at4 x11) 0 0 (r / 56) (r % 56) o + x12 (ix1 o)) 0 := by
  pointwise [k0_pay49, k0_pay50, k0_pay51, k0_pay52]
  refine congrArg (fun t => max (t + x12 (ix1 o)) 0) ?_
  exact four (P := k0_pay80 (F := Ideal) x0 x1 x2 x3 x4 x5 x6 x7 x8 x9 x10 x11 x12) x11 h 0 0 _ _ rfl rfl rfl rfl rfl (Nat.add_comm _ _) rfl (Nat.add_comm _ _) o

set_option maxRecDepth 16384 in
set_option maxHeartbeats 8000000 in
/-- The phase of the even rows and odd columns. -/
theorem phase01 {p : Img 64} (h : ∀ i j c, k0_pay80 (F := Ideal) x0 x1 x2 x3 x4 x5 x6 x7 x8 x9 x10 x11 x12 (ix3 i j c) = p i j c) (i j : Fin 1) (r : Fin 3136) (o : Fin 32) :
    (k0_pay55 (k0_pay80 x0 x1 x2 x3 x4 x5 x6 x7 x8 x9 x10 x11 x12) (k0_pay53 (k0_pay80 x0 x1 x2 x3 x4 x5 x6 x7 x8 x9 x10 x11 x12) (View.ld (Val := Elt Ideal) (e' := .f32) x11 r0_23) (View.ld (Val := Elt Ideal) (e' := .f32) x11 r0_24)) (k0_pay54 (k0_pay80 x0 x1 x2 x3 x4 x5 x6 x7 x8 x9 x10 x11 x12) (View.ld (Val := Elt Ideal) (e' := .f32) x11 r0_25)) (View.ld (Val := Elt Ideal) (e' := .f32) x11 r0_26) (View.ld (Val := Elt Ideal) (e' := .f32) x12 r0_2)) (ix4 i j r o)
      = max (quarter p (at4 x11) 0 1 (r / 56) (r % 56) o + x12 (ix1 o)) 0 := by
  pointwise [k0_pay53, k0_pay54, k0_pay55]
  refine congrArg (fun t => max (t + x12 (ix1 o)) 0) ?_
  exact four (P := k0_pay80 (F := Ideal) x0 x1 x2 x3 x4 x5 x6 x7 x8 x9 x10 x11 x12) x11 h 0 1 _ _ rfl rfl rfl rfl rfl (Nat.add_comm _ _) (Nat.add_comm _ _) (Nat.add_comm 2 _) o

set_option maxRecDepth 16384 in
set_option maxHeartbeats 8000000 in
/-- The phase of the odd rows and even columns. -/
theorem phase10 {p : Img 64} (h : ∀ i j c, k0_pay80 (F := Ideal) x0 x1 x2 x3 x4 x5 x6 x7 x8 x9 x10 x11 x12 (ix3 i j c) = p i j c) (i j : Fin 1) (r : Fin 3136) (o : Fin 32) :
    (k0_pay58 (k0_pay80 x0 x1 x2 x3 x4 x5 x6 x7 x8 x9 x10 x11 x12) (k0_pay56 (k0_pay80 x0 x1 x2 x3 x4 x5 x6 x7 x8 x9 x10 x11 x12) (View.ld (Val := Elt Ideal) (e' := .f32) x11 r0_28) (View.ld (Val := Elt Ideal) (e' := .f32) x11 r0_29)) (k0_pay57 (k0_pay80 x0 x1 x2 x3 x4 x5 x6 x7 x8 x9 x10 x11 x12)) (View.ld (Val := Elt Ideal) (e' := .f32) x11 r0_30) (View.ld (Val := Elt Ideal) (e' := .f32) x11 r0_31) (View.ld (Val := Elt Ideal) (e' := .f32) x12 r0_2)) (ix4 i j r o)
      = max (quarter p (at4 x11) 1 0 (r / 56) (r % 56) o + x12 (ix1 o)) 0 := by
  pointwise [k0_pay56, k0_pay57, k0_pay58]
  refine congrArg (fun t => max (t + x12 (ix1 o)) 0) ?_
  exact four (P := k0_pay80 (F := Ideal) x0 x1 x2 x3 x4 x5 x6 x7 x8 x9 x10 x11 x12) x11 h 1 0 _ _ rfl rfl rfl rfl (Nat.add_comm _ _) (Nat.add_comm 2 _) rfl (Nat.add_comm _ _) o

set_option maxRecDepth 16384 in
set_option maxHeartbeats 8000000 in
/-- The phase of the odd rows and columns. -/
theorem phase11 {p : Img 64} (h : ∀ i j c, k0_pay80 (F := Ideal) x0 x1 x2 x3 x4 x5 x6 x7 x8 x9 x10 x11 x12 (ix3 i j c) = p i j c) (i j : Fin 1) (r : Fin 3136) (o : Fin 32) :
    (k0_pay1 (k0_pay61 (k0_pay80 x0 x1 x2 x3 x4 x5 x6 x7 x8 x9 x10 x11 x12) (k0_pay59 (k0_pay80 x0 x1 x2 x3 x4 x5 x6 x7 x8 x9 x10 x11 x12) (View.ld (Val := Elt Ideal) (e' := .f32) x11 r0_33)) (k0_pay60 (k0_pay80 x0 x1 x2 x3 x4 x5 x6 x7 x8 x9 x10 x11 x12)) (View.ld (Val := Elt Ideal) (e' := .f32) x11 r0_34) (View.ld (Val := Elt Ideal) (e' := .f32) x11 r0_35) (View.ld (Val := Elt Ideal) (e' := .f32) x11 r0_36) (View.ld (Val := Elt Ideal) (e' := .f32) x12 r0_2))) (ix4 i j r o)
      = max (quarter p (at4 x11) 1 1 (r / 56) (r % 56) o + x12 (ix1 o)) 0 := by
  pointwise [k0_pay59, k0_pay60, k0_pay61, k0_pay1]
  refine congrArg (fun t => max (t + x12 (ix1 o)) 0) ?_
  exact four (P := k0_pay80 (F := Ideal) x0 x1 x2 x3 x4 x5 x6 x7 x8 x9 x10 x11 x12) x11 h 1 1 _ _ rfl rfl rfl rfl (Nat.add_comm _ _) (Nat.add_comm 2 _) (Nat.add_comm _ _) (Nat.add_comm 2 _) o
end
end Cert.KernelRun
end
-- ==== Proof.KPick.lean ====
/- The kernel's quantisation: the least distance, the least place at which it is met, and the row which the one-hot
   product picks. -/
module

public import proofs.«01_k».proof.Proof.KEnc
public import proofs.«01_k».proof.Proof.Vq
public import Idealize.ShloMosaic.Lib.Pointwise
public import Idealize.ShloMosaic.Lib.WordCmp

@[expose] public section

set_option Elab.async false

noncomputable section

namespace Cert.KernelRun

open Cert.KernelIdeal Cert.KernelIdeal.Gen Idealize.ShloMosaic Idealize.ShloMosaic.TcCoe Idealize.SL.Sem Cert.Vq

/-- There is a first least place. -/
theorem exists_first {n : ℕ} (d : Fin (n + 1) → EReal) : ∃ j, FirstMin d j := by
  obtain ⟨a, -, ha⟩ := Finset.exists_min_image Finset.univ d ⟨0, Finset.mem_univ _⟩
  have hne : (Finset.univ.filter fun k => d k = d a).Nonempty := ⟨a, by simp⟩
  refine ⟨(Finset.univ.filter fun k => d k = d a).min' hne, fun k => ?_⟩
  have hm := Finset.min'_mem _ hne
  rw [Finset.mem_filter] at hm
  rcases lt_or_eq_of_le (ha k (Finset.mem_univ k)) with h | h
  · exact .inl (lt_of_eq_of_lt hm.2 h)
  · exact .inr ⟨hm.2.trans h, Finset.min'_le (Finset.univ.filter fun k => d k = d a) k (Finset.mem_filter.mpr ⟨Finset.mem_univ k, h.symm⟩)⟩

/-- The least distance is the one at the first least place. -/
theorem least_eq {d : Fin 1024 → EReal} {j : Fin 1024} (hj : FirstMin d j) :
    Finset.fold min (Ideal.ofBits .f32 2139095040#32) d Finset.univ = d j := by
  refine le_antisymm ((Finset.fold_min_le _).mpr (.inr ⟨j, Finset.mem_univ _, le_rfl⟩)) ((Finset.le_fold_min _).mpr ⟨?_, fun k _ => ?_⟩)
  · rw [inf_bits]; exact le_top
  · rcases hj k with h | ⟨h, -⟩
    · exact h.le
    · exact h.le

/-- The lesser of two words, as a number. -/
theorem minsi_toInt (a b : BitVec 32) : (IntOp.minsi a b).toInt = min a.toInt b.toInt := by
  simp only [IntOp.minsi, BitVec.slt_eq_decide, BitVec.sle_eq_decide, decide_eq_true_eq]
  split <;> omega

/-- The least of the places at which the least distance is met is the first. -/
theorem pick_eq {d : Fin 1024 → EReal} {j : Fin 1024} (hj : FirstMin d j)
    (dec : ∀ x, Decidable (d x = Finset.fold min (Ideal.ofBits .f32 2139095040#32) d Finset.univ)) :
    Finset.fold IntOp.minsi 2147483647#32 (fun x : Fin 1024 =>
      @ite _ (d x = Finset.fold min (Ideal.ofBits .f32 2139095040#32) d Finset.univ) (dec x) (BitVec.ofNat 32 x) 1073741824#32) Finset.univ
      = BitVec.ofNat 32 j := by
  revert dec
  rw [least_eq hj]
  intro dec
  have hj' := j.2
  have e0 : (2147483647#32 : BitVec 32).toInt = 2147483647 := by decide
  have e1 : (1073741824#32 : BitVec 32).toInt = 1073741824 := by decide
  have small : ∀ x : Fin 1024, (BitVec.ofNat 32 x.val).toInt = x.val := fun x => toInt_small x
  refine BitVec.eq_of_toInt_eq (le_antisymm ?_ ?_)
  · refine (Finset.fold_op_rel_iff_or (op := IntOp.minsi) (r := fun c z : BitVec 32 => z.toInt ≤ c.toInt) (fun {x y z} => ?_)).mpr
      (.inr ⟨j, Finset.mem_univ _, ?_⟩)
    · show (IntOp.minsi y z).toInt ≤ x.toInt ↔ _
      rw [minsi_toInt, min_le_iff]
    · show (@ite _ (d j = d j) (dec j) _ _ : BitVec 32).toInt ≤ _
      rw [if_pos rfl]
  · refine (Finset.fold_op_rel_iff_and (op := IntOp.minsi) (r := fun c z : BitVec 32 => c.toInt ≤ z.toInt) (fun {x y z} => ?_)).mpr
      ⟨?_, fun k _ => ?_⟩
    · show x.toInt ≤ (IntOp.minsi y z).toInt ↔ _
      rw [minsi_toInt, le_min_iff]
    · show (BitVec.ofNat 32 j.val).toInt ≤ _
      rw [small, e0]; omega
    · show (BitVec.ofNat 32 j.val).toInt ≤ (@ite _ (d k = d j) (dec k) _ _ : BitVec 32).toInt
      rw [small]
      split
      · rename_i h
        rw [small]
        rcases hj k with g | ⟨-, g⟩
        · exact absurd h.symm g.ne
        · exact_mod_cast g
      · rw [e1]; omega

/-- A comparison's bit as a float. -/
theorem bit_float (x j : Fin 1024) :
    (FloatOps.sitofp (F := Ideal) .f32 (BitVec.setWidth 32 (IntOp.cmpi .eq (BitVec.ofNat 32 x.val) (BitVec.ofNat 32 j.val))) : EReal)
      = if x = j then 1 else 0 := by
  by_cases h : x = j
  · subst h
    rw [if_pos rfl]
    show (((BitVec.setWidth 32 (IntOp.cmpi .eq (BitVec.ofNat 32 x.val) (BitVec.ofNat 32 x.val))).toInt : ℝ) : EReal) = 1
    rw [show IntOp.cmpi .eq (BitVec.ofNat 32 x.val) (BitVec.ofNat 32 x.val) = 1#1 by simp [IntOp.cmpi]]
    rw [show (BitVec.setWidth 32 (1#1)).toInt = 1 by decide]
    norm_num
  · rw [if_neg h]
    have hne : BitVec.ofNat 32 x.val ≠ BitVec.ofNat 32 j.val := fun e => h (Fin.ext (by
      have := congrArg BitVec.toInt e
      rw [toInt_small x, toInt_small j] at this
      exact_mod_cast this))
    show (((BitVec.setWidth 32 (IntOp.cmpi .eq (BitVec.ofNat 32 x.val) (BitVec.ofNat 32 j.val))).toInt : ℝ) : EReal) = 0
    rw [show IntOp.cmpi .eq (BitVec.ofNat 32 x.val) (BitVec.ofNat 32 j.val) = 0#1 by
      show BitVec.ofBool (_ == _) = 0#1
      rw [beq_false_of_ne hne]; rfl]
    rw [show (BitVec.setWidth 32 (0#1)).toInt = 0 by decide]
    norm_num

/-- The one-hot sum picks one value. -/
theorem bit_sum (j : Fin 1024) (g : Fin 1024 → EReal) :
    ∑ x, FloatOps.sitofp (F := Ideal) .f32 (BitVec.setWidth 32 (IntOp.cmpi .eq (BitVec.ofNat 32 x.val) (BitVec.ofNat 32 j.val))) * g x
      = g j := by
  simp only [bit_float]
  rw [Finset.sum_eq_single j (fun x _ h => by rw [if_neg h, zero_mul]) (fun h => absurd (Finset.mem_univ j) h), if_pos rfl, one_mul]

section
variable {p : S3136x64.Idx → EReal} {v : S64x1024.Idx → EReal} {s : S1x1024.Idx → EReal} {cb : S1024x64.Idx → EReal}
  (hv : ∀ c j, v (ix2 c j) = cb (ix2 j c)) (hs : ∀ j, s (ix2 0 j) = ∑ c, v (ix2 c j) * v (ix2 c j))
include hv hs

/-- The distance as the kernel computes it, from the transposed codebook and its column sums. -/
theorem dist_row (r : Fin 3136) (x : Fin 1024) :
    ∑ c : Fin 64, p (ix2 r c) * p (ix2 r c) - Ideal.ofBits .f32 1073741824#32 * ∑ c : Fin 64, p (ix2 r c) * v (ix2 c x) + s (ix2 0 x)
      = Vq.dist (fun c => p (ix2 r c)) (at2 cb) x := by
  simp only [Vq.dist, at2, ofNat_val, hs, hv]

/-- The least place at which a row's least distance is met. -/
theorem row_pick {r : Fin 3136} {j : Fin 1024} (hj : FirstMin (Vq.dist (fun c => p (ix2 r c)) (at2 cb)) j)
    (dec : ∀ x, Decidable (∑ c : Fin 64, p (ix2 r c) * p (ix2 r c) - Ideal.ofBits .f32 1073741824#32 * ∑ c : Fin 64, p (ix2 r c) * v (ix2 c x) + s (ix2 0 x)
        = Finset.fold min (Ideal.ofBits .f32 2139095040#32) (fun x : Fin 1024 => ∑ c : Fin 64, p (ix2 r c) * p (ix2 r c) - Ideal.ofBits .f32 1073741824#32 * ∑ c : Fin 64, p (ix2 r c) * v (ix2 c x) + s (ix2 0 x)) Finset.univ)) :
    Finset.fold IntOp.minsi 2147483647#32 (fun x : Fin 1024 => @ite _ (∑ c : Fin 64, p (ix2 r c) * p (ix2 r c) - Ideal.ofBits .f32 1073741824#32 * ∑ c : Fin 64, p (ix2 r c) * v (ix2 c x) + s (ix2 0 x)
        = Finset.fold min (Ideal.ofBits .f32 2139095040#32) (fun x : Fin 1024 => ∑ c : Fin 64, p (ix2 r c) * p (ix2 r c) - Ideal.ofBits .f32 1073741824#32 * ∑ c : Fin 64, p (ix2 r c) * v (ix2 c x) + s (ix2 0 x)) Finset.univ)
      (dec x) (BitVec.ofNat 32 x) 1073741824#32) Finset.univ = BitVec.ofNat 32 j :=
  pick_eq ((funext (dist_row hv hs r)).symm ▸ hj) dec

/-- A row of the quantised image: the codeword which the one-hot product picks. -/
theorem row_sum {r : Fin 3136} {j : Fin 1024} (hj : FirstMin (Vq.dist (fun c => p (ix2 r c)) (at2 cb)) j)
    (dec : ∀ x, Decidable (∑ c : Fin 64, p (ix2 r c) * p (ix2 r c) - Ideal.ofBits .f32 1073741824#32 * ∑ c : Fin 64, p (ix2 r c) * v (ix2 c x) + s (ix2 0 x)
        = Finset.fold min (Ideal.ofBits .f32 2139095040#32) (fun x : Fin 1024 => ∑ c : Fin 64, p (ix2 r c) * p (ix2 r c) - Ideal.ofBits .f32 1073741824#32 * ∑ c : Fin 64, p (ix2 r c) * v (ix2 c x) + s (ix2 0 x)) Finset.univ)) (o : Fin 64) :
    ∑ x : Fin 1024, FloatOps.sitofp (F := Ideal) .f32 (BitVec.setWidth 32 (IntOp.cmpi .eq (BitVec.ofNat 32 x.val)
      (Finset.fold IntOp.minsi 2147483647#32 (fun x : Fin 1024 => @ite _ (∑ c : Fin 64, p (ix2 r c) * p (ix2 r c) - Ideal.ofBits .f32 1073741824#32 * ∑ c : Fin 64, p (ix2 r c) * v (ix2 c x) + s (ix2 0 x)
        = Finset.fold min (Ideal.ofBits .f32 2139095040#32) (fun x : Fin 1024 => ∑ c : Fin 64, p (ix2 r c) * p (ix2 r c) - Ideal.ofBits .f32 1073741824#32 * ∑ c : Fin 64, p (ix2 r c) * v (ix2 c x) + s (ix2 0 x)) Finset.univ)
        (dec x) (BitVec.ofNat 32 x) 1073741824#32) Finset.univ))) * cb (ix2 x o) = cb (ix2 j o) := by
  rw [row_pick hv hs hj dec]
  exact bit_sum j fun x => cb (ix2 x o)
end

end Cert.KernelRun

end
-- ==== Proof.KHq.lean ====
/- The quantised image as the kernel builds it, in four runs of rows: every row is the codeword nearest to the encoder's. -/
module

public import proofs.«01_k».proof.Proof.Gen.KernelIdeal.Frame
public import proofs.«01_k».proof.Proof.KPick
public import proofs.«01_k».proof.Proof.Conv
public import Idealize.ShloMosaic.Lib.Pointwise
public import Idealize.ShloMosaic.Lib.WordCmp

@[expose] public section

set_option Elab.async false

noncomputable section

namespace Cert.KernelRun

open Cert.KernelIdeal Cert.KernelIdeal.Gen Idealize.ShloMosaic Idealize.ShloMosaic.TcCoe Idealize.SL.Sem Cert.Vq

/-- The squared lengths of the codewords. -/
theorem lengths (v : FVec Ideal S64x1024 .f32) (j : Fin 1024) : k0_pay31 (F := Ideal) v (ix2 0 j) = ∑ c, v (ix2 c j) * v (ix2 c j) := by
  pointwise [k0_pay31]

section
variable (v7 : Vec Ideal S3x3x64x64 .f32) (v8 : Vec Ideal S64 .f32) (v10 : FVec Ideal S64x1024 .f32) (v11 : Vec Ideal S1024x64 .f32)
  (a : FVec Ideal S58x58x64 .f32) (b c : FVec Ideal S3136x64 .f32) (hv : ∀ c j, v10 (ix2 c j) = v11 (ix2 j c))
include hv

set_option maxRecDepth 16384 in
set_option maxHeartbeats 8000000 in
/-- The first run of rows. -/
theorem run0 (t : Fin 784) (r : Fin 3136) (hr : r.val = t) {j : Fin 1024}
    (hj : FirstMin (Vq.dist (fun k => k0_pay30 (F := Ideal) v7 v8 a b c (ix2 r k)) (at2 v11)) j) (o : Fin 64) :
    k0_pay32 (F := Ideal) v7 v8 v10 v11 a b c (ix2 t o) = v11 (ix2 j o) := by
  pointwise [k0_pay32]
  have e : (⟨t.val, by omega⟩ : Fin 3136) = r := Fin.ext hr.symm
  rw [← e] at hj
  generalize k0_pay30 (F := Ideal) v7 v8 a b c = p at *
  exact row_sum hv (lengths v10) hj _ o

set_option maxRecDepth 16384 in
set_option maxHeartbeats 8000000 in
/-- The second run of rows. -/
theorem run1 (t : Fin 784) (r : Fin 3136) (hr : r.val = 784 + t) {j : Fin 1024}
    (hj : FirstMin (Vq.dist (fun k => k0_pay30 (F := Ideal) v7 v8 a b c (ix2 r k)) (at2 v11)) j) (o : Fin 64) :
    k0_pay37 (F := Ideal) v11 (k0_pay31 v10) (k0_pay34 v7 v8 a b c) (k0_pay35 v7 v8 a b c) (k0_pay36 v10) (ix2 t o) = v11 (ix2 j o) := by
  pointwise [k0_pay33, k0_pay34, k0_pay35, k0_pay36, k0_pay37]
  have e : (⟨784 + t.val, by omega⟩ : Fin 3136) = r := Fin.ext hr.symm
  rw [← e] at hj
  generalize k0_pay30 (F := Ideal) v7 v8 a b c = p at *
  exact row_sum hv (lengths v10) hj _ o

set_option maxRecDepth 16384 in
set_option maxHeartbeats 8000000 in
/-- The third run's one-hot rows. -/
theorem run2 (p : FVec Ideal S3136x64 .f32) (t : Fin 784) (r : Fin 3136) (hr : r.val = 1568 + t) {j : Fin 1024}
    (hj : FirstMin (Vq.dist (fun k => p (ix2 r k)) (at2 v11)) j) (x : Fin 1024) :
    k0_pay38 (F := Ideal) v10 p (k0_pay31 v10) (ix2 t x) = BitVec.setWidth 32 (IntOp.cmpi .eq (BitVec.ofNat 32 x.val) (BitVec.ofNat 32 j.val)) := by
  pointwise [k0_pay38]
  have e : (⟨1568 + t.val, by omega⟩ : Fin 3136) = r := Fin.ext hr.symm
  rw [← e] at hj
  exact congrArg (fun w => BitVec.setWidth 32 (IntOp.cmpi .eq (BitVec.ofNat 32 x.val) w)) (row_pick hv (lengths v10) hj _)

set_option maxRecDepth 16384 in
set_option maxHeartbeats 8000000 in
/-- Every row of the quantised image is its nearest codeword. -/
theorem runs (p : FVec Ideal S3136x64 .f32) (q q' : FVec Ideal S784x64 .f32) (w : IVec S784x1024 32) (r : Fin 3136) {j : Fin 1024}
    (hj : FirstMin (Vq.dist (fun k => p (ix2 r k)) (at2 v11)) j) (o : Fin 64)
    (h0 : ∀ t : Fin 784, r.val = t → q (ix2 t o) = v11 (ix2 j o)) (h1 : ∀ t : Fin 784, r.val = 784 + t → q' (ix2 t o) = v11 (ix2 j o))
    (h2 : ∀ t : Fin 784, r.val = 1568 + t → ∀ x : Fin 1024, w (ix2 t x) = BitVec.setWidth 32 (IntOp.cmpi .eq (BitVec.ofNat 32 x.val) (BitVec.ofNat 32 j.val))) :
    k0_pay39 (F := Ideal) v10 v11 p (k0_pay31 v10) q q' w (ix2 r o) = v11 (ix2 j o) := by
  have hr := r.2
  pointwise [k0_pay39]
  by_cases a : r.val < 784
  · rw [dif_pos a]
    exact h0 _ rfl
  rw [dif_neg a]
  by_cases b : r.val - 784 < 784
  · rw [dif_pos b]
    exact h1 _ (by show r.val = 784 + (r.val - 784); omega)
  rw [dif_neg b]
  by_cases c : r.val - 784 - 784 < 784
  · rw [dif_pos c]
    have e := h2 ⟨r.val - 784 - 784, c⟩ (by show r.val = 1568 + (r.val - 784 - 784); omega)
    refine Eq.trans ?_ (bit_sum j fun x => v11 (ix2 x o))
    exact Finset.sum_congr rfl fun x _ => congrArg (fun w => FloatOps.sitofp (F := Ideal) .f32 w * v11 (ix2 x o)) (e x)
  rw [dif_neg c]
  have e : (⟨2352 + (r.val - 784 - 784 - 784), by omega⟩ : Fin 3136) = r := Fin.ext (by show 2352 + (r.val - 784 - 784 - 784) = r.val; omega)
  rw [← e] at hj
  exact row_sum hv (lengths v10) hj _ o
end

section
variable (x0 : Vec Ideal S1x72x72x48 .f32) (x1 : Vec Ideal S2x2x2x2x48x32 .f32) (x2 : Vec Ideal S32 .f32) (x3 : Vec Ideal S4x4x32x64 .f32) (x4 : Vec Ideal S64 .f32) (x5 : Vec Ideal S3x3x64x64 .f32) (x6 : Vec Ideal S64 .f32) (x7 : Vec Ideal S64x1024 .f32) (x8 : Vec Ideal S1024x64 .f32) (x9 : Vec Ideal S3x3x64x64 .f32) (x10 : Vec Ideal S64 .f32) (x11 : Vec Ideal S4x4x64x32 .f32) (x12 : Vec Ideal S32 .f32)

/-- The transposed codebook as loaded. -/
theorem loaded (c : Fin 64) (j : Fin 1024) : k0_pay64 (F := Ideal) x0 x1 x2 x3 x4 x5 x6 x7 x8 x9 x10 x11 x12 (ix2 c j) = x7 (ix2 c j) := by
  unfold k0_pay64
  pointwise [k0_pay4]

/-- The codebook as loaded. -/
theorem book (i : Fin 1024) (j : Fin 64) : View.ld (Val := Elt Ideal) (e' := .f32) x8 r0_7 (ix2 i j) = x8 (ix2 i j) := by
  pointwise []

/-- Every row of the kernel's quantised image is its nearest codeword. -/
theorem quantised (hv : ∀ c j, x7 (ix2 c j) = x8 (ix2 j c)) (r : Fin 3136) {j : Fin 1024}
    (hj : FirstMin (Vq.dist (fun c => k0_pay73 (F := Ideal) x0 x1 x2 x3 x4 x5 x6 x7 x8 x9 x10 x11 x12 (ix2 r c)) (at2 x8)) j) (o : Fin 64) :
    k0_pay39 (F := Ideal) (k0_pay64 x0 x1 x2 x3 x4 x5 x6 x7 x8 x9 x10 x11 x12) (View.ld (Val := Elt Ideal) (e' := .f32) x8 r0_7) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12) (ix2 r o)
      = x8 (ix2 j o) := by
  have hv' : ∀ c j, k0_pay64 (F := Ideal) x0 x1 x2 x3 x4 x5 x6 x7 x8 x9 x10 x11 x12 (ix2 c j) = View.ld (Val := Elt Ideal) (e' := .f32) x8 r0_7 (ix2 j c) := fun c j =>
    (loaded x0 x1 x2 x3 x4 x5 x6 x7 x8 x9 x10 x11 x12 c j).trans ((hv c j).trans (book x8 j c).symm)
  have ha : at2 x8 = at2 (View.ld (Val := Elt Ideal) (e' := .f32) x8 r0_7 : S1024x64.Idx → EReal) := by
    funext i k
    exact (book x8 _ k).symm
  rw [ha] at hj
  refine Eq.trans ?_ (book x8 j o)
  have hj' := hj
  unfold k0_pay73 at hj'
  unfold k0_pay74
  refine runs _ _ hv' _ _ _ _ r hj o (fun t h => ?_) (fun t h => ?_) (fun t h x => ?_)
  · unfold k0_pay75
    exact run0 _ _ _ _ _ _ _ hv' t r h hj' o
  · unfold k0_pay76 k0_pay74
    exact run1 _ _ _ _ _ _ _ hv' t r h hj' o
  · unfold k0_pay77 k0_pay74
    exact run2 _ _ hv' _ t r h hj x
end
end Cert.KernelRun
end
-- ==== Proof.KOut.lean ====
module

public import proofs.«01_k».proof.Proof.Gen.KernelIdeal.Frame
public import proofs.«01_k».proof.Proof.KDec
public import proofs.«01_k».proof.Proof.KHq
public import Idealize.ShloMosaic.Lib.Pointwise
public import Idealize.ShloMosaic.Lib.WordCmp
public import Idealize.ShloMosaic.Lib.Pipeline.ValueKit

@[expose] public section

set_option Elab.async false

noncomputable section

namespace Cert.KernelRun

open Cert.KernelIdeal Cert.KernelIdeal.Gen Idealize.ShloMosaic Idealize.ShloMosaic.TcCoe Idealize.SL.Sem Cert.Vq

variable (x0 : Vec Ideal S1x72x72x48 .f32) (x1 : Vec Ideal S2x2x2x2x48x32 .f32) (x2 : Vec Ideal S32 .f32) (x3 : Vec Ideal S4x4x32x64 .f32) (x4 : Vec Ideal S64 .f32) (x5 : Vec Ideal S3x3x64x64 .f32) (x6 : Vec Ideal S64 .f32) (x7 : Vec Ideal S64x1024 .f32) (x8 : Vec Ideal S1024x64 .f32) (x9 : Vec Ideal S3x3x64x64 .f32) (x10 : Vec Ideal S64 .f32) (x11 : Vec Ideal S4x4x64x32 .f32) (x12 : Vec Ideal S32 .f32)

set_option maxRecDepth 16384 in
set_option maxHeartbeats 8000000 in
/-- The first block: every row is the codeword nearest to the encoder's row. -/
theorem first_block (hv : ∀ c j, x7 (ix2 c j) = x8 (ix2 j c)) (r : Fin 3136) {j : Fin 1024}
    (hj : FirstMin (Vq.dist (fun c => k0_pay73 (F := Ideal) x0 x1 x2 x3 x4 x5 x6 x7 x8 x9 x10 x11 x12 (ix2 r c)) (at2 x8)) j) (o : Fin 64) :
    out0_13 (F := Ideal) x0 x1 x2 x3 x4 x5 x6 x7 x8 x9 x10 x11 x12 (ix3 0 r o) = x8 (ix2 j o) := by
  unfold out0_13
  rw [View.canon_cons_unit_lit' (h := by decide)]
  pointwise [k0_pay40]
  exact quantised x0 x1 x2 x3 x4 x5 x6 x7 x8 x9 x10 x11 x12 hv r hj o

set_option maxRecDepth 16384 in
set_option maxHeartbeats 8000000 in
/-- The second block: the four phases of the grown image. -/
theorem grown_block {p : Img 64} (h : ∀ i j c, k0_pay80 (F := Ideal) x0 x1 x2 x3 x4 x5 x6 x7 x8 x9 x10 x11 x12 (ix3 i j c) = p i j c) (k : Fin 4) (r : Fin 3136) (o : Fin 32) :
    out0_14 (F := Ideal) x0 x1 x2 x3 x4 x5 x6 x7 x8 x9 x10 x11 x12 (ix4 0 k r o) = max (quarter p (at4 x11) (k / 2) (k % 2) (r / 56) (r % 56) o + x12 (ix1 o)) 0 := by
  unfold out0_14
  canon_tiles x hx
  all_goals
    have h2 : (r : ℕ) = _ := hx2
    have h3 : (o : ℕ) = _ := hx3
    obtain ⟨i, j, rfl⟩ : ∃ (i : Fin 1) (j : Fin 1), x = ix4 i j r o := ⟨x 0, x 1, by
      funext a
      match a with
      | ⟨0, _⟩ => rfl
      | ⟨1, _⟩ => rfl
      | ⟨2, _⟩ => exact Fin.ext h2.symm
      | ⟨3, _⟩ => exact Fin.ext h3.symm⟩
    first
      | have h1 : (k : ℕ) = _ + (j : ℕ) := hx1
      | have h1 : (k : ℕ) = (j : ℕ) := hx1
    clear hx0 hx1 hx2 h2 h3 hx3 x0_lt x1_lt x2_lt x3_lt
  · rw [show (k : ℕ) = 3 by omega]
    exact phase11 x0 x1 x2 x3 x4 x5 x6 x7 x8 x9 x10 x11 x12 h i j r o
  · rw [show (k : ℕ) = 2 by omega]
    exact phase10 x0 x1 x2 x3 x4 x5 x6 x7 x8 x9 x10 x11 x12 h i j r o
  · rw [show (k : ℕ) = 1 by omega]
    exact phase01 x0 x1 x2 x3 x4 x5 x6 x7 x8 x9 x10 x11 x12 h i j r o
  · rw [show (k : ℕ) = 0 by omega]
    exact phase00 x0 x1 x2 x3 x4 x5 x6 x7 x8 x9 x10 x11 x12 h i j r o

end Cert.KernelRun
-- ==== Proof.Grow.lean ====
/- Sums regrouped: a convolution in phases, and one of a spread image as four small ones. -/
module

public import proofs.«01_k».proof.Proof.Spec

@[expose] public section

set_option Elab.async false

noncomputable section

namespace Cert.Vq

open Idealize.ShloMosaic Finset

/-- Of four places in a row those of one parity survive. -/
theorem sum_parity {a : ℕ} (ha : a < 2) (F : ℕ → ℕ → EReal) (y : ℕ) (h : ∀ Y u, F (2 * Y + 1) u = 0) :
    ∑ u : Fin 4, F (1 * (2 * y + a) + u) u = ∑ d : Fin 2, F (2 * (y + a + d)) (2 * d + a) := by
  have h1 : ∀ u, F (2 * y + 1) u = 0 := h y
  have h3 : ∀ u, F (2 * y + 3) u = 0 := h (y + 1)
  interval_cases a
  · simp only [Fin.sum_univ_four, Fin.sum_univ_two, one_mul]
    show F (2 * y + 0 + 0) 0 + F (2 * y + 0 + 1) 1 + F (2 * y + 0 + 2) 2 + F (2 * y + 0 + 3) 3 = F (2 * (y + 0 + 0)) 0 + F (2 * (y + 0 + 1)) 2
    simp only [add_zero, h1, h3, mul_add, mul_one]
  · simp only [Fin.sum_univ_four, Fin.sum_univ_two, one_mul]
    show F (2 * y + 1 + 0) 0 + F (2 * y + 1 + 1) 1 + F (2 * y + 1 + 2) 2 + F (2 * y + 1 + 3) 3 = F (2 * (y + 1 + 0)) 1 + F (2 * (y + 1 + 1)) 3
    have e'' : 2 * y + 1 + 2 = 2 * y + 3 := rfl
    simp only [add_zero, h1, e'', h3, mul_add, mul_one, zero_add]

/-- A spread image at even places is the framed image at half of them. -/
theorem spread_even {C H : ℕ} (f : Img C) (Y X : ℕ) (c : Fin C) : spread H f (2 * Y) (2 * X) c = padN 1 H H f Y X c := by
  unfold spread padN
  have e : (2 * Y - 2) / 2 = Y - 1 := by omega
  have e' : (2 * X - 2) / 2 = X - 1 := by omega
  rw [e, e']
  exact if_congr (by omega) rfl rfl

/-- … and nothing on odd rows, -/
theorem spread_row {C H : ℕ} (f : Img C) (Y x : ℕ) (c : Fin C) : spread H f (2 * Y + 1) x c = 0 := if_neg (by omega)
/-- … nor in odd columns. -/
theorem spread_column {C H : ℕ} (f : Img C) (y X : ℕ) (c : Fin C) : spread H f y (2 * X + 1) c = 0 := if_neg (by omega)

/-- The convolution of a spread image, at a place of one phase. -/
theorem conv_spread {C O H : ℕ} (f : Img C) (w : Taps C O) {a b : ℕ} (ha : a < 2) (hb : b < 2) (y x : ℕ) (o : Fin O) :
    conv 4 1 (spread H f) w (2 * y + a) (2 * x + b) o
      = ∑ d : Fin 2, ∑ e : Fin 2, tap (padN 1 H H f) (w (2 * d + a) (2 * e + b)) (y + a + d) (x + b + e) o := by
  unfold conv
  rw [sum_parity ha (fun Y u => ∑ v : Fin 4, tap (spread H f) (w u v) Y (1 * (2 * x + b) + v) o) y fun Y u => Finset.sum_eq_zero fun v _ => by
    simp only [tap, spread_row, zero_mul, Finset.sum_const_zero]]
  refine Finset.sum_congr rfl fun d _ => ?_
  rw [sum_parity hb (fun X v => tap (spread H f) (w (2 * d + a) v) (2 * (y + a + d)) X o) x fun X v => by
    simp only [tap, spread_column, zero_mul, Finset.sum_const_zero]]
  refine Finset.sum_congr rfl fun e _ => ?_
  simp only [tap, spread_even]

/-- Three places of which two in a row count. -/
theorem sum_two_of_three {a : ℕ} (ha : a < 2) (F : ℕ → EReal) :
    ∑ u : Fin 3, (if a ≤ (u : ℕ) ∧ (u : ℕ) < a + 2 then F u else 0) = ∑ d : Fin 2, F (a + d) := by
  interval_cases a <;> simp [Fin.sum_univ_three, Fin.sum_univ_two]

/-- The three by three convolution that does all four phases at once, read at one phase. -/
theorem conv_phases {C O O' H : ℕ} (f : Img C) (w : Taps C O) (w' : Taps C O') {a b : ℕ} (ha : a < 2) (hb : b < 2) (o : Fin O) (o' : Fin O')
    (hw : ∀ (u v : Fin 3) i, w' u v i o' = if (a ≤ (u : ℕ) ∧ (u : ℕ) < a + 2) ∧ (b ≤ (v : ℕ) ∧ (v : ℕ) < b + 2) then w (2 * (u - a) + a) (2 * (v - b) + b) i o else 0)
    (y x : ℕ) :
    conv 3 1 (padN 1 H H f) w' y x o' = conv 4 1 (spread H f) w (2 * y + a) (2 * x + b) o := by
  rw [conv_spread f w ha hb]
  unfold conv
  have h1 : ∀ u v : Fin 3, tap (padN 1 H H f) (w' u v) (1 * y + u) (1 * x + v) o' = if a ≤ (u : ℕ) ∧ (u : ℕ) < a + 2 then
      (if b ≤ (v : ℕ) ∧ (v : ℕ) < b + 2 then tap (padN 1 H H f) (w (2 * (u - a) + a) (2 * (v - b) + b)) (y + u) (x + v) o else 0) else 0 := by
    intro u v
    unfold tap
    by_cases p : a ≤ (u : ℕ) ∧ (u : ℕ) < a + 2 <;> by_cases q : b ≤ (v : ℕ) ∧ (v : ℕ) < b + 2
    · rw [if_pos p, if_pos q]
      simp only [hw, if_pos (And.intro p q), one_mul]
    · rw [if_pos p, if_neg q]
      simp only [hw, if_neg (fun h : _ ∧ _ => q h.2), mul_zero, Finset.sum_const_zero]
    · rw [if_neg p]
      simp only [hw, if_neg (fun h : _ ∧ _ => p h.1), mul_zero, Finset.sum_const_zero]
    · rw [if_neg p]
      simp only [hw, if_neg (fun h : _ ∧ _ => p h.1), mul_zero, Finset.sum_const_zero]
  simp only [h1]
  have h2 : ∀ u : Fin 3, (∑ v : Fin 3, if a ≤ (u : ℕ) ∧ (u : ℕ) < a + 2 then
      (if b ≤ (v : ℕ) ∧ (v : ℕ) < b + 2 then tap (padN 1 H H f) (w (2 * (u - a) + a) (2 * (v - b) + b)) (y + u) (x + v) o else 0) else 0)
      = if a ≤ (u : ℕ) ∧ (u : ℕ) < a + 2 then ∑ e : Fin 2, tap (padN 1 H H f) (w (2 * (u - a) + a) (2 * e + b)) (y + u) (x + b + e) o else 0 := by
    intro u
    by_cases p : a ≤ (u : ℕ) ∧ (u : ℕ) < a + 2
    · simp only [if_pos p]
      rw [sum_two_of_three hb fun v => tap (padN 1 H H f) (w (2 * (u - a) + a) (2 * (v - b) + b)) (y + u) (x + v) o]
      simp only [Nat.add_sub_cancel_left, add_assoc]
    · simp only [if_neg p, Finset.sum_const_zero]
  simp only [h2]
  rw [sum_two_of_three ha fun u => ∑ e : Fin 2, tap (padN 1 H H f) (w (2 * (u - a) + a) (2 * e + b)) (y + u) (x + b + e) o]
  simp only [Nat.add_sub_cancel_left, add_assoc]

/-- Forty-eight channels are four by four places of three. -/
theorem sum_places (f : Fin 48 → EReal) :
    ∑ q, f q = ∑ r : Fin 4, ∑ s : Fin 4, ∑ c : Fin 3, f ⟨(r.val * 4 + s.val) * 3 + c.val, by omega⟩ := by
  rw [← (finProdFinEquiv (m := 16) (n := 3)).sum_comp, Fintype.sum_prod_type, ← (finProdFinEquiv (m := 4) (n := 4)).sum_comp, Fintype.sum_prod_type]
  refine Finset.sum_congr rfl fun r _ => Finset.sum_congr rfl fun s _ => Finset.sum_congr rfl fun c _ => ?_
  refine congrArg f (Fin.ext ?_)
  simp only [finProdFinEquiv_apply_val]
  omega

/-- Two blocks of four places, of which four in a row count. -/
theorem sum_four_of_eight {a : ℕ} (ha : a < 2) (F : ℕ → EReal) :
    ∑ d : Fin 2, ∑ r : Fin 4, (if 2 * a ≤ 4 * (d : ℕ) + r ∧ 4 * (d : ℕ) + r < 2 * a + 4 then F (4 * d + r) else 0)
      = ∑ v : Fin 4, F (2 * a + v) := by
  interval_cases a <;> simp [Fin.sum_univ_four, Fin.sum_univ_two]
  exact (add_assoc _ _ _).symm

/-- The first convolution in phases: its forty-eight channels hold four by four places, and a phase sees four of eight in a row. -/
theorem conv_regrouped {O H : ℕ} {f : Img 3} {W : Taps 3 O} {X : Img 48} {A : Taps 48 O} {a b : ℕ} (ha : a < 2) (hb : b < 2) {i j : ℕ}
    (hX : ∀ (d e : Fin 2) (r s : Fin 4) (c : Fin 3), X (i + d) (j + e) ⟨(r.val * 4 + s.val) * 3 + c.val, by omega⟩
      = padN 3 H H f (4 * (i + d) + r) (4 * (j + e) + s) c)
    (hA : ∀ (d e : Fin 2) (r s : Fin 4) (c : Fin 3) (o : Fin O), A d e ⟨(r.val * 4 + s.val) * 3 + c.val, by omega⟩ o
      = if (2 * a ≤ 4 * (d : ℕ) + r ∧ 4 * (d : ℕ) + r < 2 * a + 4) ∧ (2 * b ≤ 4 * (e : ℕ) + s ∧ 4 * (e : ℕ) + s < 2 * b + 4)
        then W (4 * d + r - 2 * a) (4 * e + s - 2 * b) c o else 0) (o : Fin O) :
    conv 2 1 X A i j o = ∑ v : Fin 4, ∑ w : Fin 4, tap (padN 3 H H f) (W v w) (4 * i + (2 * a + v)) (4 * j + (2 * b + w)) o := by
  unfold conv
  have h1 : ∀ d e : Fin 2, tap X (A d e) (1 * i + d) (1 * j + e) o = ∑ r : Fin 4, ∑ s : Fin 4,
      if 2 * a ≤ 4 * (d : ℕ) + r ∧ 4 * (d : ℕ) + r < 2 * a + 4 then (if 2 * b ≤ 4 * (e : ℕ) + s ∧ 4 * (e : ℕ) + s < 2 * b + 4 then
        tap (padN 3 H H f) (W (4 * d + r - 2 * a) (4 * e + s - 2 * b)) (4 * i + (4 * d + r)) (4 * j + (4 * e + s)) o else 0) else 0 := by
    intro d e
    unfold tap
    rw [sum_places]
    refine Finset.sum_congr rfl fun r _ => Finset.sum_congr rfl fun s _ => ?_
    simp only [one_mul, hX, hA]
    by_cases p : 2 * a ≤ 4 * (d : ℕ) + r ∧ 4 * (d : ℕ) + r < 2 * a + 4 <;> by_cases q : 2 * b ≤ 4 * (e : ℕ) + s ∧ 4 * (e : ℕ) + s < 2 * b + 4
    · simp only [if_pos p, if_pos q, if_pos (And.intro p q), mul_add, add_assoc]
    · simp only [if_pos p, if_neg q, if_neg (fun h : _ ∧ _ => q h.2), mul_zero, Finset.sum_const_zero]
    · simp only [if_neg p, if_neg (fun h : _ ∧ _ => p h.1), mul_zero, Finset.sum_const_zero]
    · simp only [if_neg p, if_neg (fun h : _ ∧ _ => p h.1), mul_zero, Finset.sum_const_zero]
  simp only [h1]
  have h2 : ∀ d : Fin 2, ∀ r : Fin 4, (∑ e : Fin 2, ∑ s : Fin 4,
      if 2 * a ≤ 4 * (d : ℕ) + r ∧ 4 * (d : ℕ) + r < 2 * a + 4 then (if 2 * b ≤ 4 * (e : ℕ) + s ∧ 4 * (e : ℕ) + s < 2 * b + 4 then
        tap (padN 3 H H f) (W (4 * d + r - 2 * a) (4 * e + s - 2 * b)) (4 * i + (4 * d + r)) (4 * j + (4 * e + s)) o else 0) else 0)
      = if 2 * a ≤ 4 * (d : ℕ) + r ∧ 4 * (d : ℕ) + r < 2 * a + 4 then
        ∑ w : Fin 4, tap (padN 3 H H f) (W (4 * d + r - 2 * a) w) (4 * i + (4 * d + r)) (4 * j + (2 * b + w)) o else 0 := by
    intro d r
    by_cases p : 2 * a ≤ 4 * (d : ℕ) + r ∧ 4 * (d : ℕ) + r < 2 * a + 4
    · simp only [if_pos p]
      rw [sum_four_of_eight hb fun k => tap (padN 3 H H f) (W (4 * d + r - 2 * a) (k - 2 * b)) (4 * i + (4 * d + r)) (4 * j + k) o]
      simp only [Nat.add_sub_cancel_left]
    · simp only [if_neg p, Finset.sum_const_zero]
  have h3 : ∀ d : Fin 2, (∑ e : Fin 2, ∑ r : Fin 4, ∑ s : Fin 4,
      if 2 * a ≤ 4 * (d : ℕ) + r ∧ 4 * (d : ℕ) + r < 2 * a + 4 then (if 2 * b ≤ 4 * (e : ℕ) + s ∧ 4 * (e : ℕ) + s < 2 * b + 4 then
        tap (padN 3 H H f) (W (4 * d + r - 2 * a) (4 * e + s - 2 * b)) (4 * i + (4 * d + r)) (4 * j + (4 * e + s)) o else 0) else 0)
      = ∑ r : Fin 4, if 2 * a ≤ 4 * (d : ℕ) + r ∧ 4 * (d : ℕ) + r < 2 * a + 4 then
        ∑ w : Fin 4, tap (padN 3 H H f) (W (4 * d + r - 2 * a) w) (4 * i + (4 * d + r)) (4 * j + (2 * b + w)) o else 0 := by
    intro d
    rw [Finset.sum_comm]
    exact Finset.sum_congr rfl fun r _ => h2 d r
  simp only [h3]
  rw [sum_four_of_eight ha fun k => ∑ w : Fin 4, tap (padN 3 H H f) (W (k - 2 * a) w) (4 * i + k) (4 * j + (2 * b + w)) o]
  simp only [Nat.add_sub_cancel_left]

/-- A wider frame is the narrower one shifted. -/
theorem pad_shift {C H : ℕ} (f : Img C) (y x : ℕ) (c : Fin C) : padN 3 H H f (y + 2) (x + 2) c = padN 1 H H f y x c := by
  unfold padN
  have e : y + 2 - 3 = y - 1 := by omega
  have e' : x + 2 - 3 = x - 1 := by omega
  rw [e, e']
  exact if_congr (by omega) rfl rfl

/-- A phase of the first layer, framed, is the framed first layer at the places of that phase. -/
theorem first_layer {O : ℕ} {f : Img 3} {W : Taps 3 O} {X : Img 48} {A : Taps 48 O} (bias : Fin O → EReal) {a b : ℕ} (ha : a < 2) (hb : b < 2) {i j : ℕ}
    (hX : ∀ (d e : Fin 2) (r s : Fin 4) (c : Fin 3), X (i + d) (j + e) ⟨(r.val * 4 + s.val) * 3 + c.val, by omega⟩
      = padN 3 224 224 f (4 * (i + d) + r) (4 * (j + e) + s) c)
    (hA : ∀ (d e : Fin 2) (r s : Fin 4) (c : Fin 3) (o : Fin O), A d e ⟨(r.val * 4 + s.val) * 3 + c.val, by omega⟩ o
      = if (2 * a ≤ 4 * (d : ℕ) + r ∧ 4 * (d : ℕ) + r < 2 * a + 4) ∧ (2 * b ≤ 4 * (e : ℕ) + s ∧ 4 * (e : ℕ) + s < 2 * b + 4)
        then W (4 * d + r - 2 * a) (4 * e + s - 2 * b) c o else 0) (o : Fin O) :
    (if 1 - a ≤ i ∧ i < 1 - a + 56 ∧ 1 - b ≤ j ∧ j < 1 - b + 56 then max (conv 2 1 X A i j o + bias o) 0 else 0)
      = padN 1 112 112 (fun y x o => max (conv 4 2 (padN 1 224 224 f) W y x o + bias o) 0) (2 * i + a) (2 * j + b) o := by
  rw [conv_regrouped ha hb hX hA]
  by_cases h : 1 - a ≤ i ∧ i < 1 - a + 56 ∧ 1 - b ≤ j ∧ j < 1 - b + 56
  · rw [if_pos h]
    unfold padN
    rw [if_pos (by omega)]
    refine congrArg (fun t => max (t + bias o) 0) ?_
    unfold conv
    refine Finset.sum_congr rfl fun v _ => Finset.sum_congr rfl fun w _ => ?_
    unfold tap
    refine Finset.sum_congr rfl fun c _ => ?_
    refine congrArg (· * _) ?_
    rw [show 4 * i + (2 * a + (v : ℕ)) = 2 * (2 * i + a - 1) + v + 2 by omega, show 4 * j + (2 * b + (w : ℕ)) = 2 * (2 * j + b - 1) + w + 2 by omega]
    exact pad_shift f _ _ c
  · rw [if_neg h]
    unfold padN
    rw [if_neg (by omega)]

end Cert.Vq

end
-- ==== Proof.KBlock.lean ====
/- The first call's blocks as the layers of a picture: the code, the quantised code and the grown image of the decoder. -/
module

public import proofs.«01_k».proof.Proof.KOut
public import proofs.«01_k».proof.Proof.KPick
public import proofs.«01_k».proof.Proof.Grow
public import proofs.«01_k».proof.Proof.Model

@[expose] public section

set_option Elab.async false

noncomputable section

namespace Cert.KernelRun

open Cert.KernelIdeal Cert.KernelIdeal.Gen Idealize.ShloMosaic Idealize.ShloMosaic.TcCoe Idealize.SL.Sem Cert.Vq

variable (x0 : Vec Ideal S1x72x72x48 .f32) (x1 : Vec Ideal S2x2x2x2x48x32 .f32) (x2 : Vec Ideal S32 .f32) (x3 : Vec Ideal S4x4x32x64 .f32) (x4 : Vec Ideal S64 .f32) (x5 : Vec Ideal S3x3x64x64 .f32) (x6 : Vec Ideal S64 .f32) (x7 : Vec Ideal S64x1024 .f32) (x8 : Vec Ideal S1024x64 .f32) (x9 : Vec Ideal S3x3x64x64 .f32) (x10 : Vec Ideal S64 .f32) (x11 : Vec Ideal S4x4x64x32 .f32) (x12 : Vec Ideal S32 .f32)
  {f : Img 3} {W : Taps 3 32}
  (hX : ∀ (i j : Fin 72) (q : Fin 48), x0 (ix4 0 i j q) = padN 3 224 224 f (i * 4 + q / 12) (j * 4 + q / 3 % 4) (channel q))
  (hA : ∀ (a b d e : Fin 2) (q : Fin 48) (o : Fin 32), x1 (ix6 a b d e q o)
    = if (2 * a.val ≤ 4 * d.val + q.val / 12 ∧ 4 * d.val + q.val / 12 < 2 * a.val + 4)
        ∧ (2 * b.val ≤ 4 * e.val + q.val / 3 % 4 ∧ 4 * e.val + q.val / 3 % 4 < 2 * b.val + 4)
      then W (4 * d.val + q.val / 12 - 2 * a.val) (4 * e.val + q.val / 3 % 4 - 2 * b.val) (channel q) o else 0)

/-- The places of the sixteen taps and three channels in a gathered row. -/
theorem place (r s : Fin 4) (c : Fin 3) : ((r.val * 4 + s.val) * 3 + c.val) / 12 = r ∧ ((r.val * 4 + s.val) * 3 + c.val) / 3 % 4 = s
    ∧ ((r.val * 4 + s.val) * 3 + c.val) % 3 = c := by
  omega

include hX hA

/-- A phase of the first convolution is every other row and column of the first layer, in its frame. -/
theorem phase_is (a b : Fin 2) (i j : Fin 64) (o : Fin 32) :
    gate (1 - a) (1 - b) (first x0 x1 x2 a b) i j o = padN 1 112 112 (layer1 f W (at1 x2)) (2 * i + a) (2 * j + b) o := by
  refine first_layer (f := f) (W := W) (X := img x0 0) (A := phase x1 a b) (fun o => x2 (ix1 o)) a.2 b.2 ?_ ?_ o
  · intro d e r s c
    obtain ⟨h1, h2, h3⟩ := place r s c
    refine (img_at x0 0 ⟨i + d, by omega⟩ ⟨j + e, by omega⟩ _).trans ((hX _ _ _).trans ?_)
    have e3 : channel ((r.val * 4 + s.val) * 3 + c.val) = c := Fin.ext h3
    show padN 3 224 224 f ((i.val + d.val) * 4 + ((r.val * 4 + s.val) * 3 + c.val) / 12) ((j.val + e.val) * 4 + ((r.val * 4 + s.val) * 3 + c.val) / 3 % 4)
      (channel ((r.val * 4 + s.val) * 3 + c.val)) = _
    rw [h1, h2, e3, mul_comm (i.val + d.val), mul_comm (j.val + e.val)]
  · intro d e r s c o
    obtain ⟨h1, h2, h3⟩ := place r s c
    have e3 : channel ((r.val * 4 + s.val) * 3 + c.val) = c := Fin.ext h3
    unfold phase
    rw [ofNat_val, ofNat_val, hA]
    simp only [h1, h2, e3]

/-- The code: the encoder's three layers of the picture. -/
theorem block_code (r : Fin 3136) (o : Fin 64) : k0_pay73 (F := Ideal) x0 x1 x2 x3 x4 x5 x6 x7 x8 x9 x10 x11 x12 (ix2 r o)
    = code f W (at1 x2) (at4 x3) (at1 x4) (at4 x5) (at1 x6) (r / 56) (r % 56) o :=
  conv3 x0 x1 x2 x3 x4 x5 x6 x7 x8 x9 x10 x11 x12
    (conv2 x0 x1 x2 x3 x4 x5 x6 x7 x8 x9 x10 x11 x12 (phase_is x0 x1 x2 hX hA 0 0) (phase_is x0 x1 x2 hX hA 0 1) (phase_is x0 x1 x2 hX hA 1 0)
      (phase_is x0 x1 x2 hX hA 1 1)) r o

/-- The quantised code, as the payload the decoder goes on from. -/
theorem block_quantised (hv : ∀ c j, x7 (ix2 c j) = x8 (ix2 j c)) (r : Fin 3136) (o : Fin 64) :
    k0_pay39 (F := Ideal) (k0_pay64 x0 x1 x2 x3 x4 x5 x6 x7 x8 x9 x10 x11 x12) (View.ld (Val := Elt Ideal) (e' := .f32) x8 r0_7) (k0_pay73 x0 x1 x2 x3 x4 x5 x6 x7 x8 x9 x10 x11 x12) (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (k0_pay77 x0 x1 x2 x3 x4 x5 x6 x7 x8 x9 x10 x11 x12) (ix2 r o)
      = chosen (code f W (at1 x2) (at4 x3) (at1 x4) (at4 x5) (at1 x6)) (at2 x8) (r / 56) (r % 56) o := by
  obtain ⟨j, hj⟩ := exists_first (Vq.dist (code f W (at1 x2) (at4 x3) (at1 x4) (at4 x5) (at1 x6) (r / 56) (r % 56)) (at2 x8))
  unfold chosen
  rw [nearest_eq hj]
  refine (quantised x0 x1 x2 x3 x4 x5 x6 x7 x8 x9 x10 x11 x12 hv r (j := j) ?_ o).trans ?_
  · rw [show (fun c => k0_pay73 (F := Ideal) x0 x1 x2 x3 x4 x5 x6 x7 x8 x9 x10 x11 x12 (ix2 r c)) = _ from
      funext fun c => block_code x0 x1 x2 x3 x4 x5 x6 x7 x8 x9 x10 x11 x12 hX hA r c]
    exact hj
  · unfold at2
    rw [ofNat_val]

/-- The first result's block: the quantised code. -/
theorem block_first (hv : ∀ c j, x7 (ix2 c j) = x8 (ix2 j c)) (r : Fin 3136) (o : Fin 64) :
    out0_13 (F := Ideal) x0 x1 x2 x3 x4 x5 x6 x7 x8 x9 x10 x11 x12 (ix3 0 r o)
      = chosen (code f W (at1 x2) (at4 x3) (at1 x4) (at4 x5) (at1 x6)) (at2 x8) (r / 56) (r % 56) o := by
  obtain ⟨j, hj⟩ := exists_first (Vq.dist (code f W (at1 x2) (at4 x3) (at1 x4) (at4 x5) (at1 x6) (r / 56) (r % 56)) (at2 x8))
  unfold chosen
  rw [nearest_eq hj]
  refine (first_block x0 x1 x2 x3 x4 x5 x6 x7 x8 x9 x10 x11 x12 hv r (j := j) ?_ o).trans ?_
  · rw [show (fun c => k0_pay73 (F := Ideal) x0 x1 x2 x3 x4 x5 x6 x7 x8 x9 x10 x11 x12 (ix2 r c)) = _ from
      funext fun c => block_code x0 x1 x2 x3 x4 x5 x6 x7 x8 x9 x10 x11 x12 hX hA r c]
    exact hj
  · unfold at2
    rw [ofNat_val]

/-- The second result's block: the decoder's first two layers of the quantised code, in four phases. -/
theorem block_decoded (hv : ∀ c j, x7 (ix2 c j) = x8 (ix2 j c)) (k : Fin 4) (r : Fin 3136) (o : Fin 32) :
    out0_14 (F := Ideal) x0 x1 x2 x3 x4 x5 x6 x7 x8 x9 x10 x11 x12 (ix4 0 k r o)
      = layer6 (layer5 (chosen (code f W (at1 x2) (at4 x3) (at1 x4) (at4 x5) (at1 x6)) (at2 x8)) (at4 x9) (at1 x10)) (at4 x11) (at1 x12)
          (2 * (r / 56) + k / 2) (2 * (r % 56) + k % 2) o := by
  refine (grown_block x0 x1 x2 x3 x4 x5 x6 x7 x8 x9 x10 x11 x12 (conv5 x0 x1 x2 x3 x4 x5 x6 x7 x8 x9 x10 x11 x12
    (framed x0 x1 x2 x3 x4 x5 x6 x7 x8 x9 x10 x11 x12 (block_quantised x0 x1 x2 x3 x4 x5 x6 x7 x8 x9 x10 x11 x12 hX hA hv))) k r o).trans ?_
  unfold layer6
  rw [conv_spread _ _ (by omega) (by omega)]
  rfl

end Cert.KernelRun

end
-- ==== Proof.KArr.lean ====
module

public import proofs.«01_k».proof.Proof.Gen.KernelIdeal.Frame
public import Idealize.ShloMosaic.Lib.Pipeline.ValueKit
public import Idealize.ShloMosaic.Lib.Pointwise

@[expose] public section

set_option Elab.async false

noncomputable section

namespace Cert.KernelRun

open Cert.KernelIdeal Cert.KernelIdeal.Gen Idealize.ShloMosaic Idealize.ShloMosaic.TcCoe Idealize.SL.Sem

/-- The indices of the first region's blocks: the batch for the windows that move with it, zero elsewhere. -/
theorem index_first : ∀ t : Fin cfg0.N, win0_0.index t = ![t.val, 0, 0, 0]
    ∧ win0_1.index t = ![0, 0, 0, 0, 0, 0]
    ∧ win0_2.index t = ![0]
    ∧ win0_3.index t = ![0, 0, 0, 0]
    ∧ win0_4.index t = ![0]
    ∧ win0_5.index t = ![0, 0, 0, 0]
    ∧ win0_6.index t = ![0]
    ∧ win0_7.index t = ![0, 0]
    ∧ win0_8.index t = ![0, 0]
    ∧ win0_9.index t = ![0, 0, 0, 0]
    ∧ win0_10.index t = ![0]
    ∧ win0_11.index t = ![0, 0, 0, 0]
    ∧ win0_12.index t = ![0]
    ∧ win0_13.index t = ![t.val, 0, 0] ∧ win0_14.index t = ![t.val, 0, 0, 0] :=
  (by decide +kernel : ∀ t : Fin grid0.N, _)

/-- The indices of the second region's blocks. -/
theorem index_second : ∀ t : Fin cfg1.N, win1_0.index t = ![t.val, 0, 0, 0] ∧ win1_1.index t = ![0, 0, 0, 0]
    ∧ win1_2.index t = ![0] ∧ win1_3.index t = ![t.val, 0, 0] :=
  (by decide +kernel : ∀ t : Fin grid1.N, _)

variable (V : (c : Dev nD) → (b : Ref sig .tc) → Buf (Elt Ideal) ((c : Thread nD τ).loc b)) (c : Dev nD)

set_option maxRecDepth 16384

/-- The image's block at a point is the point's image. -/
theorem block_image (t : Fin cfg0.N) : iblk0 V c 0 t = fun y => V c main_v3 (ix4 ⟨t.val, t.isLt⟩ (y 1) (y 2) (y 3)) := by
  blk_ext! [iblk0, index_first t]

/-- The second region's image at a point is the point's image. -/
theorem block_grown (t : Fin cfg1.N) : iblk1 V c 0 t = fun y => V c main_v44 (ix4 ⟨t.val, t.isLt⟩ (y 1) (y 2) (y 3)) := by
  blk_ext! [iblk1, index_second t]

/-- Every step of the second call reads the whole array of its taps. -/
theorem block_taps (t : Fin cfg1.N) : iblk1 V c 1 t = V c main_v35 := by blk_ext! [iblk1, index_second t]
/-- Every step of the second call reads the whole of its bias. -/
theorem block_bias (t : Fin cfg1.N) : iblk1 V c 2 t = V c main_v38 := by blk_ext! [iblk1, index_second t]

/-- The windows of the first region that do not move hold their whole arrays. -/
theorem block_1 (t : Fin cfg0.N) : iblk0 V c 1 t = V c main_v20 := by blk_ext! [iblk0, index_first t]
/-- Every step of the first call reads the whole of its argument 2, counted from zero. -/
theorem block_2 (t : Fin cfg0.N) : iblk0 V c 2 t = V c main_arg2 := by blk_ext! [iblk0, index_first t]
/-- Every step of the first call reads the whole of its argument 3, counted from zero. -/
theorem block_3 (t : Fin cfg0.N) : iblk0 V c 3 t = V c main_arg3 := by blk_ext! [iblk0, index_first t]
/-- Every step of the first call reads the whole of its argument 4, counted from zero. -/
theorem block_4 (t : Fin cfg0.N) : iblk0 V c 4 t = V c main_arg4 := by blk_ext! [iblk0, index_first t]
/-- Every step of the first call reads the whole of its argument 5, counted from zero. -/
theorem block_5 (t : Fin cfg0.N) : iblk0 V c 5 t = V c main_arg5 := by blk_ext! [iblk0, index_first t]
/-- Every step of the first call reads the whole of its argument 6, counted from zero. -/
theorem block_6 (t : Fin cfg0.N) : iblk0 V c 6 t = V c main_arg6 := by blk_ext! [iblk0, index_first t]
/-- Every step of the first call reads the whole of its argument 7, counted from zero. -/
theorem block_7 (t : Fin cfg0.N) : iblk0 V c 7 t = V c main_v39 := by blk_ext! [iblk0, index_first t]
/-- Every step of the first call reads the whole of its argument 8, counted from zero. -/
theorem block_8 (t : Fin cfg0.N) : iblk0 V c 8 t = V c main_arg7 := by blk_ext! [iblk0, index_first t]
/-- Every step of the first call reads the whole of its argument 9, counted from zero. -/
theorem block_9 (t : Fin cfg0.N) : iblk0 V c 9 t = V c main_arg8 := by blk_ext! [iblk0, index_first t]
/-- Every step of the first call reads the whole of its argument 10, counted from zero. -/
theorem block_10 (t : Fin cfg0.N) : iblk0 V c 10 t = V c main_arg9 := by blk_ext! [iblk0, index_first t]
/-- Every step of the first call reads the whole of its argument 11, counted from zero. -/
theorem block_11 (t : Fin cfg0.N) : iblk0 V c 11 t = V c main_arg10 := by blk_ext! [iblk0, index_first t]
/-- Every step of the first call reads the whole of its argument 12, counted from zero. -/
theorem block_12 (t : Fin cfg0.N) : iblk0 V c 12 t = V c main_arg11 := by blk_ext! [iblk0, index_first t]

end Cert.KernelRun
-- ==== Proof.KRes.lean ====
module

public import proofs.«01_k».proof.Proof.KArr
public import Idealize.ShloMosaic.Lib.Pipeline.ValueKit
public import Idealize.ShloMosaic.Lib.Pointwise

@[expose] public section

set_option Elab.async false

noncomputable section

namespace Cert.KernelRun

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b)) (c : Dev nD)

set_option maxRecDepth 16384

/-- The first region's first result, image by image. -/
theorem result_first : (dat0 V c).arrAt 13 cfg0.N = fun i : S8x3136x64.Idx => out0_13 (fun y => V c main_v3 (ix4 (i 0) (y 1) (y 2) (y 3))) (V c main_v20) (V c main_arg2) (V c main_arg3) (V c main_arg4) (V c main_arg5) (V c main_arg6) (V c main_v39) (V c main_arg7) (V c main_arg8) (V c main_arg9) (V c main_arg10) (V c main_arg11) (ix3 0 (i 1) (i 2)) := by
  refine (dat0 V c).arrAt_eq_of_covers 13 _ (by decide +kernel) fun t hf y => ?_
  blk_simp
  rw [after0_13, block_image, block_1, block_2, block_3, block_4, block_5, block_6, block_7, block_8, block_9, block_10, block_11, block_12]
  have e : (win0_13.blk t).view.emb y = ix3 ⟨t.val, t.isLt⟩ (y 1) (y 2) := by blk_ext! [index_first t]
  have h : y = ix3 (0 : Fin 1) (y 1) (y 2) := by blk_ext! []
  rw [e]
  exact congrArg _ h

/-- The first region's second result, image by image. -/
theorem result_grown : (dat0 V c).arrAt 14 cfg0.N = fun i : S8x4x3136x32.Idx => out0_14 (fun y => V c main_v3 (ix4 (i 0) (y 1) (y 2) (y 3))) (V c main_v20) (V c main_arg2) (V c main_arg3) (V c main_arg4) (V c main_arg5) (V c main_arg6) (V c main_v39) (V c main_arg7) (V c main_arg8) (V c main_arg9) (V c main_arg10) (V c main_arg11) (ix4 0 (i 1) (i 2) (i 3)) := by
  refine (dat0 V c).arrAt_eq_of_covers 14 _ (by decide +kernel) fun t hf y => ?_
  blk_simp
  rw [after0_14, block_image, block_1, block_2, block_3, block_4, block_5, block_6, block_7, block_8, block_9, block_10, block_11, block_12]
  have e : (win0_14.blk t).view.emb y = ix4 ⟨t.val, t.isLt⟩ (y 1) (y 2) (y 3) := by blk_ext! [index_first t]
  have h : y = ix4 (0 : Fin 1) (y 1) (y 2) (y 3) := by blk_ext! []
  rw [e]
  exact congrArg _ h

/-- The second region's result, image by image. -/
theorem result_last : (dat1 V c).arrAt 3 cfg1.N = fun i : S8x12544x12.Idx => out1_3 (fun y => V c main_v44 (ix4 (i 0) (y 1) (y 2) (y 3))) (V c main_v35) (V c main_v38) (ix3 0 (i 1) (i 2)) := by
  refine (dat1 V c).arrAt_eq_of_covers 3 _ (by decide +kernel) fun t hf y => ?_
  blk_simp
  rw [after1_3, block_grown, block_taps, block_bias]
  have e : (win1_3.blk t).view.emb y = ix3 ⟨t.val, t.isLt⟩ (y 1) (y 2) := by blk_ext! [index_second t]
  have h : y = ix3 (0 : Fin 1) (y 1) (y 2) := by blk_ext! []
  rw [e]
  exact congrArg _ h

end Cert.KernelRun
-- ==== Proof.KOut2.lean ====
module

public import proofs.«01_k».proof.Proof.Gen.KernelIdeal.Frame
public import proofs.«01_k».proof.Proof.KEnc
public import proofs.«01_k».proof.Proof.Conv
public import Idealize.ShloMosaic.Lib.Pointwise
public import Idealize.ShloMosaic.Lib.WordCmp
public import Idealize.ShloMosaic.Lib.Pipeline.ValueKit

@[expose] public section

set_option Elab.async false

noncomputable section

namespace Cert.KernelRun

open Cert.KernelIdeal Cert.KernelIdeal.Gen Idealize.ShloMosaic Idealize.ShloMosaic.TcCoe Idealize.SL.Sem Cert.Vq

/-- Nine products of shifted rows are one three by three convolution. -/
theorem nine_rows {P : S1x114x114x32.Idx → EReal} (w : S3x3x32x12.Idx → EReal) {p : Img 32} (h : ∀ i j c, P (ix4 0 i j c) = p i j c)
    (Y0 Y1 Y2 X0 X1 X2 : Fin 114) (y x : ℕ) (o : Fin 12) (e0 : (Y0 : ℕ) = y) (e1 : (Y1 : ℕ) = y + 1) (e2 : (Y2 : ℕ) = y + 2)
    (f0 : (X0 : ℕ) = x) (f1 : (X1 : ℕ) = x + 1) (f2 : (X2 : ℕ) = x + 2) :
    ∑ c, P (ix4 0 Y0 X0 c) * w (ix4 0 0 c o) + ∑ c, P (ix4 0 Y0 X1 c) * w (ix4 0 1 c o) + ∑ c, P (ix4 0 Y0 X2 c) * w (ix4 0 2 c o)
      + ∑ c, P (ix4 0 Y1 X0 c) * w (ix4 1 0 c o) + ∑ c, P (ix4 0 Y1 X1 c) * w (ix4 1 1 c o) + ∑ c, P (ix4 0 Y1 X2 c) * w (ix4 1 2 c o)
      + ∑ c, P (ix4 0 Y2 X0 c) * w (ix4 2 0 c o) + ∑ c, P (ix4 0 Y2 X1 c) * w (ix4 2 1 c o) + ∑ c, P (ix4 0 Y2 X2 c) * w (ix4 2 2 c o)
      = conv 3 1 p (at4 w) y x o := by
  have e : conv 3 1 p (at4 w) y x o = ∑ u : Fin 3, ∑ v : Fin 3, ∑ c, p (y + u) (x + v) c * w (ix4 u v c o) := by
    simp only [conv, tap, at4, ofNat_val, one_mul]
  rw [e]
  simp only [h, e0, e1, e2, f0, f1, f2, Fin.sum_univ_three]
  simp only [Fin.val_zero, Fin.val_one, Fin.val_two, add_zero]
  abel

variable (x0 : Vec Ideal S1x114x114x32 .f32) (x1 : Vec Ideal S3x3x32x12 .f32) (x2 : Vec Ideal S12 .f32)

set_option maxRecDepth 16384 in
set_option maxHeartbeats 8000000 in
/-- The second region's block is the three by three convolution of its image, sixteen rows at a time. -/
theorem last_block {p : Img 32} (h : ∀ i j c, x0 (ix4 0 i j c) = p i j c) (r : Fin 12544) (o : Fin 12) :
    out1_3 x0 x1 x2 (ix3 0 r o) = conv 3 1 p (at4 x1) (r / 112) (r % 112) o + x2 (ix1 o) := by
  unfold out1_3
  canon_tiles x hx
  all_goals
    have h2 : (o : ℕ) = _ := hx2
    obtain ⟨q, rfl⟩ : ∃ q : Fin 1792, x = ix3 0 q o := ⟨x 1, by
      funext a
      match a with
      | ⟨0, _⟩ => exact Fin.ext (by show (x 0 : ℕ) = 0; omega)
      | ⟨1, _⟩ => rfl
      | ⟨2, _⟩ => exact Fin.ext h2.symm⟩
    first
      | have h1 : (r : ℕ) = _ + (q : ℕ) := hx1
      | have h1 : (r : ℕ) = (q : ℕ) := hx1
    clear hx0 hx1 hx2 h2 x0_lt x1_lt x2_lt
    pointwise [k1_pay1, k1_pay2, k1_pay3, k1_pay4, k1_pay5, k1_pay6, k1_pay7, k1_pay8, k1_pay9, k1_pay10, k1_pay11, k1_pay12,
      k1_pay13, k1_pay14, k1_pay15, k1_pay16, k1_pay17, k1_pay18, k1_pay19, k1_pay20, k1_pay21, k1_pay22, k1_pay23, k1_pay24,
      k1_pay25, k1_pay26, k1_pay27, k1_pay28, k1_pay29, k1_pay30, k1_pay31, k1_pay32, k1_pay33, k1_pay34, k1_pay35, k1_pay36,
      k1_pay37, k1_pay38, k1_pay39, k1_pay40, k1_pay41, k1_pay42, k1_pay43, k1_pay44]
    refine congrArg (· + x2 (ix1 o)) ?_
    refine nine_rows x1 h _ _ _ _ _ _ _ _ o ?_ ?_ ?_ ?_ ?_ ?_ <;> dsimp only <;> omega

end Cert.KernelRun
-- ==== Proof.KHost.lean ====
module

public import proofs.«01_k».proof.Proof.Gen.KernelIdeal.Frame
public import proofs.«01_k».proof.Proof.Spec
public import proofs.«01_k».proof.Proof.Conv
public import Idealize.ShloMosaic.Lib.Pointwise
public import Idealize.ShloMosaic.Lib.WordCmp

@[expose] public section

set_option Elab.async false

noncomputable section

namespace Cert.KernelRun

open Cert.KernelIdeal Cert.KernelIdeal.Gen Idealize.ShloMosaic Idealize.ShloMosaic.TcCoe Idealize.SL.Sem Idealize.ShloMosaic.StableHlo Cert.Vq

variable (V : Valuation τ sig (Elt Ideal))

set_option maxRecDepth 16384
set_option maxHeartbeats 4000000

/-- The picture in a frame of zeros. -/
theorem framed_picture (hc : (V (Proc.devRef .tc main_c) : S_.Idx → BitVec 32) = fun _ => 0#32) (n : Fin 8) (y x : Fin 288) (c : Fin 3) :
    (after hostOps0_1 V (Proc.devRef .tc main_v0) : S8x288x288x3.Idx → EReal) (ix4 n y x c) = padN 3 224 224 (img (V (Proc.devRef .tc main_arg0)) n) y x c := by
  after_reads_at
  rw [hc]
  exact dite_zero_eq sitofp_zero (by constructor <;> intro h <;> omega) fun h => by simp only [img, mk_ofNat]

/-- The picture's places gathered four by four. -/
theorem gathered (n : Fin 8) (i j : Fin 72) (q : Fin 48) :
    (after hostOps0_2 V (Proc.devRef .tc main_v3) : S8x72x72x48.Idx → EReal) (ix4 n i j q)
      = (V (Proc.devRef .tc main_v0) : S8x288x288x3.Idx → EReal) (ix4 n ⟨i * 4 + q / 12, by omega⟩ ⟨j * 4 + q / 3 % 4, by omega⟩ ⟨q % 3, by omega⟩) := by
  after_reads_at

/-- A sum over the last of nine axes. -/
theorem sum_ninth (h : S2x2x2x2x4x4x3x32x4.ReducesTo [8] S2x2x2x2x4x4x3x32) (v : S2x2x2x2x4x4x3x32x4.Idx → EReal) (a b d e : Fin 2) (r s : Fin 4)
    (c : Fin 3) (o : Fin 32) : Ideal.hostReduceAdd h v 0 (ix8 a b d e r s c o) = ∑ k : Fin 4, v (ix9 a b d e r s c o k) := by
  refine (Ideal.hostReduceAdd_single h (by decide) v 0 _).trans ((zero_add _).trans ?_)
  refine Finset.sum_congr rfl fun k _ => congrArg v (funext fun i => ?_)
  fin_cases i <;> rfl

/-- A sum over the third of seven axes. -/
theorem sum_third (h : S2x2x4x4x4x3x32.ReducesTo [2] S2x2x4x4x3x32) (v : S2x2x4x4x4x3x32.Idx → EReal) (a d : Fin 2) (r w : Fin 4)
    (c : Fin 3) (o : Fin 32) : Ideal.hostReduceAdd h v 0 (ix6 a d r w c o) = ∑ k : Fin 4, v (ix7 a d k r w c o) := by
  refine (Ideal.hostReduceAdd_single h (by decide) v 0 _).trans ((zero_add _).trans ?_)
  refine Finset.sum_congr rfl fun k _ => congrArg v (funext fun i => ?_)
  fin_cases i <;> rfl

/-- A sum over the last of seven axes. -/
theorem sum_seventh (h : S3x3x32x2x2x3x4.ReducesTo [6] S3x3x32x2x2x3) (v : S3x3x32x2x2x3x4.Idx → EReal) (a b : Fin 3) (i : Fin 32) (p q : Fin 2)
    (c : Fin 3) : Ideal.hostReduceAdd h v 0 (ix6 a b i p q c) = ∑ k : Fin 4, v (ix7 a b i p q c k) := by
  refine (Ideal.hostReduceAdd_single h (by decide) v 0 _).trans ((zero_add _).trans ?_)
  refine Finset.sum_congr rfl fun k _ => congrArg v (funext fun i => ?_)
  fin_cases i <;> rfl

/-- A sum over the third of six axes. -/
theorem sum_inner (h : S3x2x4x4x32x3.ReducesTo [2] S3x2x4x32x3) (v : S3x2x4x4x32x3.Idx → EReal) (u : Fin 3) (p : Fin 2) (l : Fin 4) (i : Fin 32)
    (c : Fin 3) : Ideal.hostReduceAdd h v 0 (ix5 u p l i c) = ∑ k : Fin 4, v (ix6 u p k l i c) := by
  refine (Ideal.hostReduceAdd_single h (by decide) v 0 _).trans ((zero_add _).trans ?_)
  refine Finset.sum_congr rfl fun k _ => congrArg v (funext fun i => ?_)
  fin_cases i <;> rfl

/-- The taps of the phases, from the taps of the layer and the table that places them. -/
theorem first_taps {S : S2x2x4x4.Idx → EReal} {W : S4x4x3x32.Idx → EReal} (hS : V (Proc.devRef .tc main_cst) = S) (hW : V (Proc.devRef .tc main_arg1) = W)
    (a b d e : Fin 2) (q : Fin 48) (o : Fin 32) :
    (after hostOps0_2 V (Proc.devRef .tc main_v20) : S2x2x2x2x48x32.Idx → EReal) (ix6 a b d e q o)
      = ∑ w : Fin 4, (∑ v : Fin 4, S (ix4 a d v ⟨q / 12, by omega⟩) * W (ix4 v w ⟨q % 3, by omega⟩ o)) * S (ix4 b e w ⟨q / 3 % 4, by omega⟩) := by
  after_reads_at
  rw [sum_ninth]
  pointwise
  simp only [sum_third]
  pointwise
  rw [hS, hW]

/-- The taps of the last layer's phases, from its taps and the table that places them. -/
theorem last_taps {T : S3x2x4.Idx → EReal} {W : S4x4x32x3.Idx → EReal} (hT : V (Proc.devRef .tc main_cst_0) = T) (hW : V (Proc.devRef .tc main_arg12) = W)
    (u v : Fin 3) (i : Fin 32) (q : Fin 12) :
    (after hostOps0_2 V (Proc.devRef .tc main_v35) : S3x3x32x12.Idx → EReal) (ix4 u v i q)
      = ∑ l : Fin 4, (∑ k : Fin 4, T (ix3 u ⟨q / 6, by omega⟩ k) * W (ix4 k l i ⟨q % 3, by omega⟩)) * T (ix3 v ⟨q / 3 % 2, by omega⟩ l) := by
  after_reads_at
  rw [sum_seventh]
  pointwise
  simp only [sum_inner]
  pointwise
  rw [hT, hW]

/-- The word of the float one. -/
theorem one_word : (FloatOps.ofBits (F := Ideal) .f32 (0x3F800000#32) : EReal) = 1 := by
  pointwise

/-- The word of the float zero. -/
theorem zero_word : (FloatOps.ofBits (F := Ideal) .f32 (0#32) : EReal) = 0 := by
  pointwise

/-- The words of the first table: the tap `v` of phase `a` lies at place `r` of block `d`. -/
theorem words_first : ∀ (a d : Fin 2) (v r : Fin 4), lit0 (S2x2x4x4.rowMajor (ix4 a d v r))
    = if v.val + 2 * a.val = 4 * d.val + r.val then 0x3F800000#32 else 0#32 := by decide +kernel

/-- The words of the second table. -/
theorem words_last : ∀ (u : Fin 3) (p : Fin 2) (k : Fin 4), lit1 (S3x2x4.rowMajor (ix3 u p k))
    = if (p.val ≤ u.val ∧ u.val < p.val + 2) ∧ k.val = 2 * (u.val - p.val) + p.val then 0x3F800000#32 else 0#32 := by decide +kernel

/-- The first table. -/
theorem table_first (a d : Fin 2) (v r : Fin 4) : (after hostOps0 V (Proc.devRef .tc main_cst) : S2x2x4x4.Idx → EReal) (ix4 a d v r)
    = if v.val + 2 * a.val = 4 * d.val + r.val then (1 : EReal) else (0 : EReal) := by
  after_reads_at
  rw [words_first]
  split
  · exact one_word
  · exact zero_word

/-- The second table. -/
theorem table_last (u : Fin 3) (p : Fin 2) (k : Fin 4) : (after hostOps0 V (Proc.devRef .tc main_cst_0) : S3x2x4.Idx → EReal) (ix3 u p k)
    = if (p.val ≤ u.val ∧ u.val < p.val + 2) ∧ k.val = 2 * (u.val - p.val) + p.val then (1 : EReal) else (0 : EReal) := by
  after_reads_at
  rw [words_last]
  split
  · exact one_word
  · exact zero_word

/-- The integer zero. -/
theorem zero_first : (after hostOps0 V (Proc.devRef .tc main_c) : S_.Idx → BitVec 32) = fun _ => 0#32 := by
  after_reads_at
  rfl

/-- The integer zero. -/
theorem zero_last : (after hostOps1 V (Proc.devRef .tc main_c_5) : S_.Idx → BitVec 32) = fun _ => 0#32 := by
  after_reads_at
  rfl

/-- A sum against one line of the first table. -/
theorem select_first {a k : ℕ} (F : ℕ → EReal) :
    ∑ v : Fin 4, (if v.val + 2 * a = k then (1 : EReal) else 0) * F v = if 2 * a ≤ k ∧ k < 2 * a + 4 then F (k - 2 * a) else 0 := by
  by_cases h : 2 * a ≤ k ∧ k < 2 * a + 4
  · rw [if_pos h, Finset.sum_eq_single (⟨k - 2 * a, by omega⟩ : Fin 4)]
    · rw [if_pos (by show k - 2 * a + 2 * a = k; omega), one_mul]
    · intro v _ hv
      rw [if_neg (fun e => hv (Fin.ext (by show v.val = k - 2 * a; omega))), zero_mul]
    · exact fun h' => absurd (Finset.mem_univ _) h'
  · rw [if_neg h]
    exact Finset.sum_eq_zero fun v _ => by rw [if_neg (by omega), zero_mul]

/-- A sum against one line of the second table. -/
theorem select_last {u p : ℕ} (hp : p < 2) (F : ℕ → EReal) :
    ∑ k : Fin 4, (if (p ≤ u ∧ u < p + 2) ∧ k.val = 2 * (u - p) + p then (1 : EReal) else 0) * F k
      = if p ≤ u ∧ u < p + 2 then F (2 * (u - p) + p) else 0 := by
  by_cases h : p ≤ u ∧ u < p + 2
  · rw [if_pos h, Finset.sum_eq_single (⟨2 * (u - p) + p, by omega⟩ : Fin 4)]
    · rw [if_pos ⟨h, rfl⟩, one_mul]
    · intro v _ hv
      rw [if_neg (fun e => hv (Fin.ext e.2)), zero_mul]
    · exact fun h' => absurd (Finset.mem_univ _) h'
  · rw [if_neg h]
    exact Finset.sum_eq_zero fun v _ => by rw [if_neg (fun e => h e.1), zero_mul]

/-- The taps of the phases: each is a tap of the layer or nothing. -/
theorem placed_first {S : S2x2x4x4.Idx → EReal} {W : S4x4x3x32.Idx → EReal}
    (hS : ∀ (a d : Fin 2) (v r : Fin 4), S (ix4 a d v r) = if v.val + 2 * a.val = 4 * d.val + r.val then 1 else 0)
    (a b d e : Fin 2) (r s : Fin 4) (c : Fin 3) (o : Fin 32) :
    ∑ w : Fin 4, (∑ v : Fin 4, S (ix4 a d v r) * W (ix4 v w c o)) * S (ix4 b e w s)
      = if (2 * a.val ≤ 4 * d.val + r.val ∧ 4 * d.val + r.val < 2 * a.val + 4) ∧ (2 * b.val ≤ 4 * e.val + s.val ∧ 4 * e.val + s.val < 2 * b.val + 4)
        then at4 W (4 * d.val + r.val - 2 * a.val) (4 * e.val + s.val - 2 * b.val) c o else 0 := by
  have h1 : ∀ w : Fin 4, ∑ v : Fin 4, S (ix4 a d v r) * W (ix4 v w c o)
      = if 2 * a.val ≤ 4 * d.val + r.val ∧ 4 * d.val + r.val < 2 * a.val + 4 then at4 W (4 * d.val + r.val - 2 * a.val) w c o else 0 := by
    intro w
    rw [← select_first (fun v => at4 W v w c o)]
    exact Finset.sum_congr rfl fun v _ => by rw [hS, at4, ofNat_val, ofNat_val]
  simp only [h1]
  simp only [hS]
  by_cases p : 2 * a.val ≤ 4 * d.val + r.val ∧ 4 * d.val + r.val < 2 * a.val + 4
  · simp only [if_pos p]
    have h2 := select_first (a := b.val) (k := 4 * e.val + s.val) (fun w => at4 W (4 * d.val + r.val - 2 * a.val) w c o)
    simp only [mul_comm (ite _ _ _ : EReal)] at h2
    rw [h2]
    exact if_congr ⟨fun h => ⟨p, h⟩, fun h => h.2⟩ rfl rfl
  · simp only [if_neg p, zero_mul, Finset.sum_const_zero]
    rw [if_neg (fun h : _ ∧ _ => p h.1)]

/-- The taps of the last layer's phases: each is a tap of the layer or nothing. -/
theorem placed_last {T : S3x2x4.Idx → EReal} {W : S4x4x32x3.Idx → EReal}
    (hT : ∀ (u : Fin 3) (p : Fin 2) (k : Fin 4), T (ix3 u p k)
      = if (p.val ≤ u.val ∧ u.val < p.val + 2) ∧ k.val = 2 * (u.val - p.val) + p.val then 1 else 0)
    (u v : Fin 3) (a b : Fin 2) (i : Fin 32) (c : Fin 3) :
    ∑ l : Fin 4, (∑ k : Fin 4, T (ix3 u a k) * W (ix4 k l i c)) * T (ix3 v b l)
      = if (a.val ≤ u.val ∧ u.val < a.val + 2) ∧ (b.val ≤ v.val ∧ v.val < b.val + 2)
        then at4 W (2 * (u.val - a.val) + a.val) (2 * (v.val - b.val) + b.val) i c else 0 := by
  have h1 : ∀ l : Fin 4, ∑ k : Fin 4, T (ix3 u a k) * W (ix4 k l i c)
      = if a.val ≤ u.val ∧ u.val < a.val + 2 then at4 W (2 * (u.val - a.val) + a.val) l i c else 0 := by
    intro l
    rw [← select_last a.2 (fun k => at4 W k l i c)]
    exact Finset.sum_congr rfl fun k _ => by rw [hT, at4, ofNat_val, ofNat_val]
  simp only [h1]
  simp only [hT]
  by_cases p : a.val ≤ u.val ∧ u.val < a.val + 2
  · simp only [if_pos p]
    have h2 := select_last (p := b.val) (u := v.val) b.2 (fun l => at4 W (2 * (u.val - a.val) + a.val) l i c)
    simp only [mul_comm (ite _ _ _ : EReal)] at h2
    rw [h2]
    exact if_congr ⟨fun h => ⟨p, h⟩, fun h => h.2⟩ rfl rfl
  · simp only [if_neg p, zero_mul, Finset.sum_const_zero]
    rw [if_neg (fun h : _ ∧ _ => p h.1)]

/-- The last bias as the second call takes it: the three channels repeated for the four phases. -/
theorem last_bias (q : Fin 12) :
    (after hostOps0_2 V (Proc.devRef .tc main_v38) : S12.Idx → EReal) (ix1 q) = (V (Proc.devRef .tc main_arg13) : S3.Idx → EReal) (ix1 ⟨q % 3, by omega⟩) := by
  after_reads_at

/-- The codebook as the first call takes it, turned over. -/
theorem turned_book (c : Fin 64) (j : Fin 1024) :
    (after hostOps0_2 V (Proc.devRef .tc main_v39) : S64x1024.Idx → EReal) (ix2 c j) = (V (Proc.devRef .tc main_arg7) : S1024x64.Idx → EReal) (ix2 j c) := by
  after_reads_at

/-- The four phases of the grown picture woven into one picture of 112 by 112. -/
theorem woven (n : Fin 8) (y x : Fin 112) (o : Fin 32) :
    (after hostOps1 V (Proc.devRef .tc main_v43) : S8x112x112x32.Idx → EReal) (ix4 n y x o) = (V (Proc.devRef .tc main_v40_1) : S8x4x3136x32.Idx → EReal) (ix4 n ⟨y % 2 * 2 + x % 2, by omega⟩ ⟨y / 2 * 56 + x / 2, by omega⟩ o) := by
  after_reads_at

/-- The woven picture with the frame of zeros around it. -/
theorem framed_grown (hc : (V (Proc.devRef .tc main_c_5) : S_.Idx → BitVec 32) = fun _ => 0#32) (n : Fin 8) (y x : Fin 114) (c : Fin 32) :
    (after hostOps1_1 V (Proc.devRef .tc main_v44) : S8x114x114x32.Idx → EReal) (ix4 n y x c) = padN 1 112 112 (img (V (Proc.devRef .tc main_v43)) n) y x c := by
  after_reads_at
  rw [hc]
  exact dite_zero_eq sitofp_zero (by constructor <;> intro h <;> omega) fun h => by simp only [img, mk_ofNat]

/-- The last result is the second call's output with its four phases woven into 224 by 224. -/
theorem last_woven (n : Fin 8) (y x : Fin 224) (c : Fin 3) :
    (after hostOps2 V (Proc.devRef .tc main_v48) : S8x224x224x3.Idx → EReal) (ix4 n y x c) = (V (Proc.devRef .tc main_v45) : S8x12544x12.Idx → EReal) (ix3 n ⟨y / 2 * 112 + x / 2, by omega⟩ ⟨y % 2 * 6 + x % 2 * 3 + c, by omega⟩) := by
  after_reads_at

/-- The first result is the first call's rows folded into 56 by 56. -/
theorem folded (n : Fin 8) (y x : Fin 56) (c : Fin 64) :
    (after hostOps2 V (Proc.devRef .tc main_v49) : S8x56x56x64.Idx → EReal) (ix4 n y x c) = (V (Proc.devRef .tc main_v40_0) : S8x3136x64.Idx → EReal) (ix3 n ⟨y * 56 + x, by omega⟩ c) := by
  after_reads_at

end Cert.KernelRun
-- ==== Proof.KVal.lean ====
/- The kernel as a whole: what its two results hold, as the layers of its arguments. -/
module

public import proofs.«01_k».proof.Proof.KBlock
public import proofs.«01_k».proof.Proof.KRes
public import proofs.«01_k».proof.Proof.KOut2
public import proofs.«01_k».proof.Proof.KHost

@[expose] public section

set_option Elab.async false

noncomputable section

namespace Cert.KernelRun

open Cert.KernelIdeal Cert.KernelIdeal.Gen Idealize.ShloMosaic Idealize.ShloMosaic.TcCoe Idealize.SL.Sem Idealize.ShloMosaic.StableHlo Cert.Vq

variable (m : (ℓ : Loc nD τ sig) → Buf (Elt Ideal) ℓ) (ρ : Dev nD → PrngReg) (c : Dev nD)

/-- The code of picture `n`, from the arguments. -/
def codeOf (n : Fin 8) : Img 64 :=
  code (img (m ((c : Thread nD τ).loc main_arg0) : S8x224x224x3.Idx → EReal) n) (at4 (m ((c : Thread nD τ).loc main_arg1) : S4x4x3x32.Idx → EReal))
    (at1 (m ((c : Thread nD τ).loc main_arg2) : S32.Idx → EReal)) (at4 (m ((c : Thread nD τ).loc main_arg3) : S4x4x32x64.Idx → EReal))
    (at1 (m ((c : Thread nD τ).loc main_arg4) : S64.Idx → EReal)) (at4 (m ((c : Thread nD τ).loc main_arg5) : S3x3x64x64.Idx → EReal))
    (at1 (m ((c : Thread nD τ).loc main_arg6) : S64.Idx → EReal))

/-- The quantised code of picture `n`. -/
def quantOf (n : Fin 8) : Img 64 := chosen (codeOf m c n) (at2 (m ((c : Thread nD τ).loc main_arg7) : S1024x64.Idx → EReal))

/-- The decoder's first two layers of the quantised code. -/
def grownOf (n : Fin 8) : Img 32 :=
  layer6 (layer5 (quantOf m c n) (at4 (m ((c : Thread nD τ).loc main_arg8) : S3x3x64x64.Idx → EReal)) (at1 (m ((c : Thread nD τ).loc main_arg9) : S64.Idx → EReal)))
    (at4 (m ((c : Thread nD τ).loc main_arg10) : S4x4x64x32.Idx → EReal)) (at1 (m ((c : Thread nD τ).loc main_arg11) : S32.Idx → EReal))

/-- The arguments as the first call is given them. -/
theorem given_arg (a : Ref sig .tc) (ha : a ∈ argRefs) : V3 m ρ c a = m ((c : Thread nD τ).loc a) := W3_args m ρ c a ha

/-- The picture the first call is given: sixteen neighbours and their channels to a place. -/
theorem given_picture (n : Fin 8) (i j : Fin 72) (q : Fin 48) : (V3 m ρ c main_v3 : S8x72x72x48.Idx → EReal) (ix4 n i j q)
    = padN 3 224 224 (img (m ((c : Thread nD τ).loc main_arg0) : S8x224x224x3.Idx → EReal) n) (i * 4 + q / 12) (j * 4 + q / 3 % 4) (channel q) := by
  refine (gathered (W2 m ρ c) n i j q).trans ((framed_picture (W1 m ρ c) (zero_first (W0 m ρ c)) n _ _ _).trans ?_)
  rw [W1_args m ρ c main_arg0 (by decide)]
  rfl

/-- The taps the first call is given: those of the first convolution, placed. -/
theorem given_taps (a b d e : Fin 2) (q : Fin 48) (o : Fin 32) : (V3 m ρ c main_v20 : S2x2x2x2x48x32.Idx → EReal) (ix6 a b d e q o)
    = if (2 * a.val ≤ 4 * d.val + q.val / 12 ∧ 4 * d.val + q.val / 12 < 2 * a.val + 4)
        ∧ (2 * b.val ≤ 4 * e.val + q.val / 3 % 4 ∧ 4 * e.val + q.val / 3 % 4 < 2 * b.val + 4)
      then at4 (m ((c : Thread nD τ).loc main_arg1) : S4x4x3x32.Idx → EReal) (4 * d.val + q.val / 12 - 2 * a.val) (4 * e.val + q.val / 3 % 4 - 2 * b.val)
        (channel q) o else 0 :=
  (first_taps (W2 m ρ c) (W2_of m ρ c main_cst (by decide)) (W2_args m ρ c main_arg1 (by decide)) a b d e q o).trans
    (placed_first (table_first (W0 m ρ c)) a b d e ⟨q / 12, by omega⟩ ⟨q / 3 % 4, by omega⟩ ⟨q % 3, by omega⟩ o)

/-- The codebook turned, against the codebook. -/
theorem given_book (k : Fin 64) (j : Fin 1024) : (V3 m ρ c main_v39 : S64x1024.Idx → EReal) (ix2 k j)
    = (V3 m ρ c main_arg7 : S1024x64.Idx → EReal) (ix2 j k) := by
  refine (turned_book (W2 m ρ c) k j).trans ?_
  rw [W2_args m ρ c main_arg7 (by decide), given_arg m ρ c main_arg7 (by decide)]

/-- The first call's first result: the quantised code, row after row. -/
theorem call_first (n : Fin 8) (r : Fin 3136) (o : Fin 64) : (W4 m ρ c (Proc.devRef .tc main_v40_0) : S8x3136x64.Idx → EReal) (ix3 n r o)
    = quantOf m c n (r / 56) (r % 56) o := by
  refine (congrFun ((W4_arr m ρ c 13).trans (result_first (V3 m ρ) c)) (ix3 n r o)).trans ?_
  refine (block_first (fun y => (V3 m ρ c main_v3 : S8x72x72x48.Idx → EReal) (ix4 n (y 1) (y 2) (y 3))) _ _ _ _ _ _ _ _ _ _ _ _
    (given_picture m ρ c n) (given_taps m ρ c) (given_book m ρ c) r o).trans ?_
  unfold quantOf codeOf
  rw [given_arg m ρ c main_arg2 (by decide), given_arg m ρ c main_arg3 (by decide), given_arg m ρ c main_arg4 (by decide),
    given_arg m ρ c main_arg5 (by decide), given_arg m ρ c main_arg6 (by decide), given_arg m ρ c main_arg7 (by decide)]

/-- The first call's second result: the decoder's first two layers, phase after phase. -/
theorem call_grown (n : Fin 8) (k : Fin 4) (r : Fin 3136) (o : Fin 32) :
    (W4 m ρ c (Proc.devRef .tc main_v40_1) : S8x4x3136x32.Idx → EReal) (ix4 n k r o)
      = grownOf m c n (2 * (r / 56) + k / 2) (2 * (r % 56) + k % 2) o := by
  refine (congrFun ((W4_arr m ρ c 14).trans (result_grown (V3 m ρ) c)) (ix4 n k r o)).trans ?_
  refine (block_decoded (fun y => (V3 m ρ c main_v3 : S8x72x72x48.Idx → EReal) (ix4 n (y 1) (y 2) (y 3))) _ _ _ _ _ _ _ _ _ _ _ _
    (given_picture m ρ c n) (given_taps m ρ c) (given_book m ρ c) k r o).trans ?_
  unfold grownOf quantOf codeOf
  rw [given_arg m ρ c main_arg2 (by decide), given_arg m ρ c main_arg3 (by decide), given_arg m ρ c main_arg4 (by decide),
    given_arg m ρ c main_arg5 (by decide), given_arg m ρ c main_arg6 (by decide), given_arg m ρ c main_arg7 (by decide),
    given_arg m ρ c main_arg8 (by decide), given_arg m ρ c main_arg9 (by decide), given_arg m ρ c main_arg10 (by decide),
    given_arg m ρ c main_arg11 (by decide)]

/-- The grown image, its phases woven together. -/
theorem grown_woven (n : Fin 8) (y x : Fin 112) (o : Fin 32) : (W5 m ρ c (Proc.devRef .tc main_v43) : S8x112x112x32.Idx → EReal) (ix4 n y x o)
    = grownOf m c n y x o := by
  refine (woven (W4 m ρ c) n y x o).trans ((call_grown m ρ c n _ _ o).trans ?_)
  refine congrArg₂ (fun a b => grownOf m c n a b o) ?_ ?_
  · show 2 * ((y.val / 2 * 56 + x.val / 2) / 56) + (y.val % 2 * 2 + x.val % 2) / 2 = y
    omega
  · show 2 * ((y.val / 2 * 56 + x.val / 2) % 56) + (y.val % 2 * 2 + x.val % 2) % 2 = x
    omega

/-- The image the second call is given: the grown image in its frame. -/
theorem given_grown (n : Fin 8) (y x : Fin 114) (o : Fin 32) : (V6 m ρ c main_v44 : S8x114x114x32.Idx → EReal) (ix4 n y x o)
    = padN 1 112 112 (grownOf m c n) y x o := by
  refine (framed_grown (W5 m ρ c) (zero_last (W4 m ρ c)) n y x o).trans ?_
  rw [padN_congr (img_of (grown_woven m ρ c n))]

/-- The taps the second call is given: those of the last layer, placed. -/
theorem given_last (u v : Fin 3) (i : Fin 32) (q : Fin 12) : (V6 m ρ c main_v35 : S3x3x32x12.Idx → EReal) (ix4 u v i q)
    = if (q.val / 6 ≤ u.val ∧ u.val < q.val / 6 + 2) ∧ (q.val / 3 % 2 ≤ v.val ∧ v.val < q.val / 3 % 2 + 2)
      then at4 (m ((c : Thread nD τ).loc main_arg12) : S4x4x32x3.Idx → EReal) (2 * (u.val - q.val / 6) + q.val / 6)
        (2 * (v.val - q.val / 3 % 2) + q.val / 3 % 2) i (channel q) else 0 := by
  have e : V6 m ρ c main_v35 = W3 m ρ c (Proc.devRef .tc main_v35) :=
    (W6_of m ρ c main_v35 (by decide)).trans ((W5_of m ρ c main_v35 (by decide)).trans (W4_of_ne m ρ c main_v35 (by decide)))
  refine (congrFun e (ix4 u v i q)).trans ?_
  exact (last_taps (W2 m ρ c) (W2_of m ρ c main_cst_0 (by decide)) (W2_args m ρ c main_arg12 (by decide)) u v i q).trans
    (placed_last (table_last (W0 m ρ c)) u v ⟨q / 6, by omega⟩ ⟨q / 3 % 2, by omega⟩ i ⟨q % 3, by omega⟩)

/-- The bias the second call is given. -/
theorem given_bias (q : Fin 12) : (V6 m ρ c main_v38 : S12.Idx → EReal) (ix1 q)
    = at1 (m ((c : Thread nD τ).loc main_arg13) : S3.Idx → EReal) (channel q) := by
  have e : V6 m ρ c main_v38 = W3 m ρ c (Proc.devRef .tc main_v38) :=
    (W6_of m ρ c main_v38 (by decide)).trans ((W5_of m ρ c main_v38 (by decide)).trans (W4_of_ne m ρ c main_v38 (by decide)))
  refine (congrFun e (ix1 q)).trans ((last_bias (W2 m ρ c) q).trans ?_)
  rw [W2_args m ρ c main_arg13 (by decide)]
  rfl

/-- The second call's result: the last layer, the four phases of a place side by side. -/
theorem call_last (n : Fin 8) (r : Fin 12544) (q : Fin 12) : (W7 m ρ c (Proc.devRef .tc main_v45) : S8x12544x12.Idx → EReal) (ix3 n r q)
    = layer7 (grownOf m c n) (at4 (m ((c : Thread nD τ).loc main_arg12) : S4x4x32x3.Idx → EReal))
        (at1 (m ((c : Thread nD τ).loc main_arg13) : S3.Idx → EReal)) (2 * (r / 112) + q / 6) (2 * (r % 112) + q / 3 % 2) (channel q) := by
  refine (congrFun ((W7_arr m ρ c 3).trans (result_last (V6 m ρ) c)) (ix3 n r q)).trans ?_
  refine (last_block (fun y => (V6 m ρ c main_v44 : S8x114x114x32.Idx → EReal) (ix4 n (y 1) (y 2) (y 3))) _ _ (given_grown m ρ c n) r q).trans ?_
  unfold layer7
  rw [given_bias m ρ c q, conv_phases (grownOf m c n) (at4 (m ((c : Thread nD τ).loc main_arg12) : S4x4x32x3.Idx → EReal)) _ (a := q / 6) (b := q / 3 % 2)
    (by omega) (by omega) (channel q) q fun u v i => ?_]
  refine Eq.trans ?_ (given_last m ρ c u v i q)
  unfold at4
  rw [ofNat_val, ofNat_val]

/-- The kernel's first result: the quantised code. -/
theorem kernel_first (n : Fin 8) (y x : Fin 56) (o : Fin 64) : (W8 m ρ c (Proc.devRef .tc main_v49) : S8x56x56x64.Idx → EReal) (ix4 n y x o)
    = quantOf m c n y x o := by
  refine (folded (W7 m ρ c) n y x o).trans ?_
  have e : W7 m ρ c (Proc.devRef .tc main_v40_0) = W4 m ρ c (Proc.devRef .tc main_v40_0) :=
    (W7_of_ne m ρ c main_v40_0 (by decide)).trans ((W6_of m ρ c main_v40_0 (by decide)).trans (W5_of m ρ c main_v40_0 (by decide)))
  refine (congrFun e (ix3 n _ o)).trans ((call_first m ρ c n _ o).trans ?_)
  refine congrArg₂ (fun a b => quantOf m c n a b o) ?_ ?_
  · show (y.val * 56 + x.val) / 56 = y
    omega
  · show (y.val * 56 + x.val) % 56 = x
    omega

/-- The kernel's second result: the decoder's picture of the quantised code. -/
theorem kernel_last (n : Fin 8) (y x : Fin 224) (o : Fin 3) : (W8 m ρ c (Proc.devRef .tc main_v48) : S8x224x224x3.Idx → EReal) (ix4 n y x o)
    = layer7 (grownOf m c n) (at4 (m ((c : Thread nD τ).loc main_arg12) : S4x4x32x3.Idx → EReal))
        (at1 (m ((c : Thread nD τ).loc main_arg13) : S3.Idx → EReal)) y x o := by
  refine (last_woven (W7 m ρ c) n y x o).trans ((call_last m ρ c n _ _).trans ?_)
  have ho : channel (y.val % 2 * 6 + x.val % 2 * 3 + o.val) = o :=
    Fin.ext (show (y.val % 2 * 6 + x.val % 2 * 3 + o.val) % 3 = o.val by omega)
  refine (congrArg (layer7 _ _ _ _ _) ho).trans (congrArg₂ (fun a b => layer7 (grownOf m c n) _ _ a b o) ?_ ?_)
  · show 2 * ((y.val / 2 * 112 + x.val / 2) / 112) + (y.val % 2 * 6 + x.val % 2 * 3 + o.val) / 6 = y
    omega
  · show 2 * ((y.val / 2 * 112 + x.val / 2) % 112) + (y.val % 2 * 6 + x.val % 2 * 3 + o.val) / 3 % 2 = x
    omega

end Cert.KernelRun

end
-- ==== Proof.KRun.lean ====
/- The run of the kernel: every unscoped buffer ends at what the last stretch of operations leaves in it. -/
module

public import proofs.«01_k».proof.Proof.Gen.KernelIdeal.Frame
public import Idealize.ShloMosaic.PureOps.Ideal

@[expose] public section

set_option Elab.async false

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resources of the run. -/
abbrev 𝕄 := MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer that outlives the run, at its end. -/
theorem run : θ_run (defs (F := Ideal)) (onTc (τ := τ) (main (F := Ideal))) ⟨m, fun _ => 0, ρ⟩ fun r => ∀ c : Dev nD,
    ∀ b ∈ Pipeline.ucRefs τ sig, r.2.mem (((c : Thread nD τ)).1, b) = W8 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.KernelRun

end
-- ==== Proof.Finite.lean ====
/- The precondition read: the picture and the encoder's parameters hold real numbers. -/
module

public import proofs.«01_k».proof.Pre_finite_encoder
public import proofs.«01_k».proof.Proof.Model
public import Idealize.ShloMosaic.Lib.Affine
public import Idealize.ShloMosaic.Lib.ReduceAll
public import Idealize.ShloMosaic.PureOps.Ideal

@[expose] public section

set_option Elab.async false

noncomputable section

namespace Cert.Finite

open Cert.Pre_finite_encoder Idealize.ShloMosaic Cert.Vq

/-- The shape relations of the precondition. -/
theorem facts : Cert.Pre_finite_encoder.Facts where
  bcast_S_S8x224x224x3 := by decide
  reducesTo_S8x224x224x3_S_d0_1_2_3 := by decide
  h_S_ := by decide
  bcast_S_S4x4x3x32 := by decide
  reducesTo_S4x4x3x32_S_d0_1_2_3 := by decide
  bcast_S_S32 := by decide
  reducesTo_S32_S_d0 := by decide
  bcast_S_S4x4x32x64 := by decide
  reducesTo_S4x4x32x64_S_d0_1_2_3 := by decide
  bcast_S_S64 := by decide
  reducesTo_S64_S_d0 := by decide
  bcast_S_S3x3x64x64 := by decide
  reducesTo_S3x3x64x64_S_d0_1_2_3 := by decide

/-- The word of the float that bounds the reals is the greatest value. -/
theorem top_word : (Ideal.ofBits .f32 0x7F800000#32 : EReal) = ⊤ := by
  rfl

/-- A value whose absolute value is below the greatest value is real. -/
theorem real_of_abs {e : EReal} (h : max e (-e) < ⊤) : IsReal e := by
  induction e using EReal.rec with
  | bot => exact absurd h (by simp)
  | coe r => exact ⟨r, rfl⟩
  | top => exact absurd h (by simp)

/-- A test of one element that came out true. -/
theorem real_of_test {s : Shape} {x : s.Idx → EReal} {b : S_.BroadcastsInDim s (![] : Fin 0 → Fin s.rank)} {i : s.Idx}
    (h : cmpf (F := Ideal) (φ := .f32) .olt (Host.absf (F := Ideal) (φ := .f32) x) (broadcastInDim s ![] b (constant (F := Ideal) S_ .f32 0x7F800000#32)) i = 1#1) :
    IsReal (x i) := by
  refine real_of_abs ?_
  rw [← top_word]
  by_contra hn
  have this : BitVec.ofBool (decide (max (x i) (-(x i)) < Ideal.ofBits .f32 0x7F800000#32)) = 1#1 := h
  rw [decide_eq_false hn] at this
  exact absurd this (by decide)

/-- A scalar array has one index. -/
instance : Subsingleton S_.Idx := ⟨fun a b => funext fun i => i.elim0⟩

/-- A test of all elements that came out true. -/
theorem real_of_all {s : Shape} {x : s.Idx → EReal} {b : S_.BroadcastsInDim s (![] : Fin 0 → Fin s.rank)} {axes : List (Fin s.rank)}
    {r : s.ReducesTo axes S_} {hu : 0 < S_.numel} {j : S_.Idx}
    (h : Host.reduce IntOp.andi (cmpf (F := Ideal) (φ := .f32) .olt (Host.absf (F := Ideal) (φ := .f32) x) (broadcastInDim s ![] b (constant (F := Ideal) S_ .f32 0x7F800000#32)))
      (constantI S_ 1 1#1) r hu j = 1#1) (i : s.Idx) : IsReal (x i) :=
  real_of_test (Host.reduce_andi_all _ _ _ _ j h i)

variable [Facts]

/-- The precondition's conjuncts. -/
theorem real_arguments (a0 : FVec Ideal S8x224x224x3 .f32) (a1 : FVec Ideal S4x4x3x32 .f32) (a2 : FVec Ideal S32 .f32) (a3 : FVec Ideal S4x4x32x64 .f32)
    (a4 : FVec Ideal S64 .f32) (a5 : FVec Ideal S3x3x64x64 .f32) (a6 : FVec Ideal S64 .f32) (a7 : FVec Ideal S1024x64 .f32)
    (a8 : FVec Ideal S3x3x64x64 .f32) (a9 : FVec Ideal S64 .f32) (a10 : FVec Ideal S4x4x64x32 .f32) (a11 : FVec Ideal S32 .f32)
    (a12 : FVec Ideal S4x4x32x3 .f32) (a13 : FVec Ideal S3 .f32)
    (h : Cert.Pre_finite_encoder.fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ ∀ i, IsReal (a6 i) := by
  have e := congrFun h (Shape.Idx.first (by decide))
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all h0, real_of_all h1, real_of_all h2, real_of_all h3, real_of_all h4, real_of_all h5, real_of_all h6⟩

end Cert.Finite

end
-- ==== Proof.lean ====
/- The claims of this certificate, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefAll
public import proofs.«01_k».proof.Proof.KVal
public import proofs.«01_k».proof.Proof.KRun
public import proofs.«01_k».proof.Proof.Finite
public import Idealize.ShloMosaic.Adequacy
public import Idealize.ShloMosaic.Init
public import Idealize.ShloMosaic.Lib.Claim

@[expose] public section

set_option Elab.async false

noncomputable section

namespace Cert.Proof

open Idealize.ShloMosaic Idealize.ShloMosaic.TcCoe Idealize.SL.Sem Idealize.ShloMosaic.StableHlo Cert.Vq

/-- The reference runs to the end, leaves its arguments as they were, and has no semaphore to leave raised. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD, ∀ a ∈ Cert.RefRun.argRefs,
        r.2.mem ((c.tc : Thread Cert.ReferenceIdeal.nD Cert.ReferenceIdeal.τ).loc a) = m ((c.tc : Thread _ _).loc a))
        ∧ r.2.sem = fun _ => 0 :=
  θ_run_mono (Cert.RefRun.run m g) fun r h =>
    ⟨fun c a ha => (h c a).trans (Cert.RefRun.line_args _ a ha), sem_eq_zero_of_no_sems (by decide) r.2⟩

/-- The same, each argument named. -/
theorem quiescent_reference : Cert.quiescent_ReferenceIdeal := fun m g _ =>
  θ_run_mono (frame_reference m g) fun r h => ⟨fun c => by
    have k := h.1 c
    simp only [Cert.RefRun.argRefs, List.forall_mem_cons] at k
    obtain ⟨h0, h1, h2, h3, h4, h5, h6, h7, h8, h9, h10, h11, h12, h13, -⟩ := k
    exact ⟨h0, h1, h2, h3, h4, h5, h6, h7, h8, h9, h10, h11, h12, h13⟩, h.2⟩

section Agreement

open Cert.KernelIdeal.Gen (W8)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- Under the precondition the code of every picture is real. -/
theorem code_real [hPre : Cert.Pre_finite_encoder.Facts] (hp : Cert.Pre_KernelIdeal_finite_encoder m) (c : Dev Cert.KernelIdeal.nD) (n : Fin 8)
    (y x : ℕ) (k : Fin 64) : IsReal (Cert.KernelRun.codeOf m c n y x k) := by
  obtain ⟨h0, h1, h2, h3, h4, h5, h6⟩ := Cert.Finite.real_arguments _ _ _ _ _ _ _ _ _ _ _ _ _ _ (hp c)
  exact real_code (fun _ _ _ => h0 _) (fun _ _ _ _ => h1 _) (fun _ => h2 _) (fun _ _ _ _ => h3 _) (fun _ => h4 _) (fun _ _ _ _ => h5 _)
    (fun _ => h6 _) y x k

/-- The two memories agree on the arguments of a device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- The code of a picture is the same function of the arguments in both programs. -/
theorem code_same {c : Dev Cert.KernelIdeal.nD} (h : Agree m m' c) (n : Fin 8) :
    Cert.RefRun.codeOf (launchContents m' c) n = Cert.KernelRun.codeOf m c n := by
  obtain ⟨a0, a1, a2, a3, a4, a5, a6, -⟩ := h
  unfold Cert.RefRun.codeOf Cert.KernelRun.codeOf
  rw [show launchContents m' c (Proc.devRef .tc Cert.ReferenceIdeal.main_arg0) = _ from a0,
    show launchContents m' c (Proc.devRef .tc Cert.ReferenceIdeal.main_arg1) = _ from a1,
    show launchContents m' c (Proc.devRef .tc Cert.ReferenceIdeal.main_arg2) = _ from a2,
    show launchContents m' c (Proc.devRef .tc Cert.ReferenceIdeal.main_arg3) = _ from a3,
    show launchContents m' c (Proc.devRef .tc Cert.ReferenceIdeal.main_arg4) = _ from a4,
    show launchContents m' c (Proc.devRef .tc Cert.ReferenceIdeal.main_arg5) = _ from a5,
    show launchContents m' c (Proc.devRef .tc Cert.ReferenceIdeal.main_arg6) = _ from a6]

/-- So is the quantised code. -/
theorem quant_same {c : Dev Cert.KernelIdeal.nD} (h : Agree m m' c) (n : Fin 8) :
    chosen (Cert.RefRun.codeOf (launchContents m' c) n) (at2 (launchContents m' c (Proc.devRef .tc Cert.ReferenceIdeal.main_arg7)))
      = Cert.KernelRun.quantOf m c n := by
  rw [code_same h n]
  obtain ⟨a0, a1, a2, a3, a4, a5, a6, a7, -⟩ := h
  unfold Cert.KernelRun.quantOf
  rw [show launchContents m' c (Proc.devRef .tc Cert.ReferenceIdeal.main_arg7) = _ from a7]

/-- The straight-through estimate of a real code is the quantised code. -/
theorem estimate_same [hPre : Cert.Pre_finite_encoder.Facts] (hp : Cert.Pre_KernelIdeal_finite_encoder m) {c : Dev Cert.KernelIdeal.nD}
    (h : Agree m m' c) (n : Fin 8) : Cert.RefRun.estimate (launchContents m' c) n = Cert.KernelRun.quantOf m c n := by
  unfold Cert.RefRun.estimate
  rw [quant_same h n, code_same h n]
  funext y x k
  exact straight_through (code_real hp c n y x k) _

/-- The first results agree, at every place. -/
theorem first_same {c : Dev Cert.KernelIdeal.nD} (h : Agree m m' c) (ρ : Dev Cert.KernelIdeal.nD → PrngReg) :
    (after Cert.RefRun.line.1 (launchContents m' c) (Proc.devRef .tc Cert.ReferenceIdeal.main_v84) : Cert.ReferenceIdeal.S8x56x56x64.Idx → EReal)
      = W8 m ρ c (Proc.devRef .tc Cert.KernelIdeal.main_v49) := by
  funext i
  obtain ⟨n, y, x, o, rfl⟩ : ∃ n y x o, i = ix4 n y x o := ⟨_, _, _, _, eq_ix4 i⟩
  refine (Cert.RefRun.reference_first (launchContents m' c) n y x o).trans (Eq.trans ?_ (Cert.KernelRun.kernel_first m ρ c n y x o).symm)
  rw [quant_same h n]

/-- The second results agree, at every place. -/
theorem last_same [hPre : Cert.Pre_finite_encoder.Facts] (hp : Cert.Pre_KernelIdeal_finite_encoder m) {c : Dev Cert.KernelIdeal.nD}
    (h : Agree m m' c) (ρ : Dev Cert.KernelIdeal.nD → PrngReg) :
    (after Cert.RefRun.line.1 (launchContents m' c) (Proc.devRef .tc Cert.ReferenceIdeal.main_v156) : Cert.ReferenceIdeal.S8x224x224x3.Idx → EReal)
      = W8 m ρ c (Proc.devRef .tc Cert.KernelIdeal.main_v48) := by
  funext i
  obtain ⟨n, y, x, o, rfl⟩ : ∃ n y x o, i = ix4 n y x o := ⟨_, _, _, _, eq_ix4 i⟩
  refine (Cert.RefRun.reference_last (launchContents m' c) n y x o).trans (Eq.trans ?_ (Cert.KernelRun.kernel_last m ρ c n y x o).symm)
  rw [estimate_same hp h n]
  obtain ⟨a0, a1, a2, a3, a4, a5, a6, a7, a8, a9, a10, a11, a12, a13⟩ := h
  unfold Cert.RefRun.pictureOf picture Cert.KernelRun.grownOf
  rw [show launchContents m' c (Proc.devRef .tc Cert.ReferenceIdeal.main_arg8) = _ from a8,
    show launchContents m' c (Proc.devRef .tc Cert.ReferenceIdeal.main_arg9) = _ from a9,
    show launchContents m' c (Proc.devRef .tc Cert.ReferenceIdeal.main_arg10) = _ from a10,
    show launchContents m' c (Proc.devRef .tc Cert.ReferenceIdeal.main_arg11) = _ from a11,
    show launchContents m' c (Proc.devRef .tc Cert.ReferenceIdeal.main_arg12) = _ from a12,
    show launchContents m' c (Proc.devRef .tc Cert.ReferenceIdeal.main_arg13) = _ from a13]

end Agreement

open Cert.KernelIdeal Cert.KernelIdeal.Gen in
/-- The kernel and the reference end with the same two results. -/
theorem algebraic [hPre : Cert.Pre_finite_encoder.Facts] :
    Cert.algebraic_KernelIdeal_ReferenceIdeal_pre_finite_encoder (hKernelIdeal := Cert.KernelIdeal.Gen.facts) (hReferenceIdeal := Cert.ReferenceIdeal.Gen.facts) := by
  intro m g m' g' hp ha
  refine ⟨fun c => W8 m g c (Proc.devRef .tc main_v49), fun c => W8 m g c (Proc.devRef .tc main_v48),
    θ_run_mono (Cert.KernelRun.run m g) fun r h c => ⟨h c _ (mem_uc main_v49 (by decide)), h c _ (mem_uc main_v48 (by decide)),
      (h c _ (mem_uc main_arg0 (by decide))).trans (W8_main_arg0 m g c), (h c _ (mem_uc main_arg1 (by decide))).trans (W8_main_arg1 m g c),
      (h c _ (mem_uc main_arg2 (by decide))).trans (W8_main_arg2 m g c), (h c _ (mem_uc main_arg3 (by decide))).trans (W8_main_arg3 m g c),
      (h c _ (mem_uc main_arg4 (by decide))).trans (W8_main_arg4 m g c), (h c _ (mem_uc main_arg5 (by decide))).trans (W8_main_arg5 m g c),
      (h c _ (mem_uc main_arg6 (by decide))).trans (W8_main_arg6 m g c), (h c _ (mem_uc main_arg7 (by decide))).trans (W8_main_arg7 m g c),
      (h c _ (mem_uc main_arg8 (by decide))).trans (W8_main_arg8 m g c), (h c _ (mem_uc main_arg9 (by decide))).trans (W8_main_arg9 m g c),
      (h c _ (mem_uc main_arg10 (by decide))).trans (W8_main_arg10 m g c),
      (h c _ (mem_uc main_arg11 (by decide))).trans (W8_main_arg11 m g c),
      (h c _ (mem_uc main_arg12 (by decide))).trans (W8_main_arg12 m g c),
      (h c _ (mem_uc main_arg13 (by decide))).trans (W8_main_arg13 m g c)⟩,
    θ_run_mono (Cert.RefRun.run m' g') fun r h c => ⟨(h c _).trans (first_same (ha c) g), (h c _).trans (last_same hp (ha c) g), ?_⟩⟩
  have k : ∀ a ∈ Cert.RefRun.argRefs, r.2.mem ((c.tc : Thread Cert.ReferenceIdeal.nD Cert.ReferenceIdeal.τ).loc a) = m' ((c.tc : Thread _ _).loc a) :=
    fun a ha => (h c a).trans (Cert.RefRun.line_args _ a ha)
  simp only [Cert.RefRun.argRefs, List.forall_mem_cons] at k
  obtain ⟨h0, h1, h2, h3, h4, h5, h6, h7, h8, h9, h10, h11, h12, h13, -⟩ := k
  exact ⟨h0, h1, h2, h3, h4, h5, h6, h7, h8, h9, h10, h11, h12, h13⟩

/-- The five claims together: both forms of the kernel and the reference run to their end, the idealised
kernel keeps the values of the printed one, and its two results are those of the reference. -/
theorem claim : Cert.Claim := ⟨Cert.Kernel.Gen.facts, Cert.KernelIdeal.Gen.facts, Cert.ReferenceIdeal.Gen.facts, Cert.Finite.facts,
  fun m g _ => Cert.Kernel.Gen.frame m g, fun m g _ => Cert.KernelIdeal.Gen.frame m g, fun m g _ => Cert.KernelIdeal.Gen.frame m g,
  quiescent_reference, fun m g _ => quiescent_reference m g trivial, trivial, algebraic (hPre := Cert.Finite.facts)⟩

end Cert.Proof

end
